-- ==== Defs.lean ====
def Pre_Kernel [hPre_ids_sorted_in_range : Cert.Pre_ids_sorted_in_range.Facts] (m : (ℓ : Loc Cert.Kernel.nD Cert.Kernel.τ Cert.Kernel.sig) → Buf (Elt Bits) ℓ) : Prop :=
  ∀ c : Dev Cert.Kernel.nD,
    (Cert.Pre_ids_sorted_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_sorted_in_range : Cert.Pre_ids_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_in_range [hPre_ids_sorted_in_range : Cert.Pre_ids_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_ids_sorted_in_range : Cert.Pre_ids_sorted_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_sorted_in_range [hReferenceIdeal : Cert.ReferenceIdeal.Facts] [hPre_ids_sorted_in_range : Cert.Pre_ids_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_sorted_in_range : Cert.Pre_ids_sorted_in_range.Facts),
    quiescent_Kernel (hKernel := hKernel) (hPre_ids_sorted_in_range := hPre_ids_sorted_in_range)
    ∧ quiescent_KernelIdeal (hKernelIdeal := hKernelIdeal) (hPre_ids_sorted_in_range := hPre_ids_sorted_in_range)
    ∧ quiescent_ReferenceIdeal (hReferenceIdeal := hReferenceIdeal)
    ∧ quiescent_ReferenceIdeal_pre_ids_sorted_in_range (hReferenceIdeal := hReferenceIdeal) (hPre_ids_sorted_in_range := hPre_ids_sorted_in_range)
    ∧ preserves_Kernel_KernelIdeal
    ∧ algebraic_KernelIdeal_ReferenceIdeal (hKernelIdeal := hKernelIdeal) (hReferenceIdeal := hReferenceIdeal) (hPre_ids_sorted_in_range := hPre_ids_sorted_in_range)
-- ==== Pre_ids_sorted_in_range.lean ====
abbrev S160000x256 : Shape := ⟨2, ![160000, 256]⟩
abbrev S160000 : Shape := ⟨1, ![160000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S1 : Shape := ⟨1, ![1]⟩
abbrev S159999 : Shape := ⟨1, ![159999]⟩
abbrev S_ : Shape := ⟨0, ![]⟩

class Facts : Prop where
  slices_S160000_S1_0 : S160000.Slices ![0] S1
  slices_S160000_S159999_0 : S160000.Slices ![0] S159999
  concatenates_S1_S159999_S160000_d0 : Shape.Concatenates [S1, S159999] S160000 0
  bcast_S_S160000 : S_.BroadcastsInDim S160000 (![] : Fin 0 → Fin S160000.rank)

variable [Facts]

def fn {F : FTy → Type} [FloatOps F] (main_arg0 : FVec F S160000x256 .f32) (main_arg1 : IVec S160000 32) (main_arg2 : FVec F S256x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x256 .f32) (main_arg11 : FVec F S256 .f32) : IVec S160000 1 :=
  let main_v0 : IVec S1 32 := (extractStridedSlice S1 ![0] · slices_S160000_S1_0) main_arg1
  let main_v1 : IVec S159999 32 := (extractStridedSlice S159999 ![0] · slices_S160000_S159999_0) main_arg1
  let main_v2 : IVec S160000 32 := (fun a b => concatenate S160000 0 [⟨S1, a⟩, ⟨S159999, b⟩] concatenates_S1_S159999_S160000_d0) main_v0 main_v1
  let main_c : IVec S_ 32 := constantI S_ 32 0#32
  let main_v3 : IVec S160000 32 := broadcastInDim S160000 ![] bcast_S_S160000 main_c
  let main_v4 : IVec S160000 1 := cmpi .sge main_arg1 main_v3
  let main_c_0 : IVec S_ 32 := constantI S_ 32 10000#32
  let main_v5 : IVec S160000 32 := broadcastInDim S160000 ![] bcast_S_S160000 main_c_0
  let main_v6 : IVec S160000 1 := cmpi .slt main_arg1 main_v5
  let main_v7 : IVec S160000 1 := andi main_v4 main_v6
  let main_v8 : IVec S160000 1 := cmpi .sle main_v2 main_arg1
  let main_v9 : IVec S160000 1 := andi main_v7 main_v8
  main_v9
-- ==== Kernel.lean ====
abbrev S160000x256 : Shape := ⟨2, ![160000, 256]⟩
abbrev S160000 : Shape := ⟨1, ![160000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩
abbrev S1792 : Shape := ⟨1, ![1792]⟩
abbrev S161792 : Shape := ⟨1, ![161792]⟩
abbrev S79x1x2048 : Shape := ⟨3, ![79, 1, 2048]⟩
abbrev S1x512 : Shape := ⟨2, ![1, 512]⟩
abbrev S10496x512 : Shape := ⟨2, ![10496, 512]⟩
abbrev S1x1x2048 : Shape := ⟨3, ![1, 1, 2048]⟩
abbrev S2048x256 : Shape := ⟨2, ![2048, 256]⟩
abbrev S2048x1 : Shape := ⟨2, ![2048, 1]⟩
abbrev S2048x512 : Shape := ⟨2, ![2048, 512]⟩
abbrev S1x2048 : Shape := ⟨2, ![1, 2048]⟩
abbrev S1x1x1 : Shape := ⟨3, ![1, 1, 1]⟩
abbrev S256x2048 : Shape := ⟨2, ![256, 2048]⟩
abbrev S1 : Shape := ⟨1, ![1]⟩
abbrev S1x256 : Shape := ⟨2, ![1, 256]⟩
abbrev S10000x256 : Shape := ⟨2, ![10000, 256]⟩
abbrev S1000x512 : Shape := ⟨2, ![1000, 512]⟩
abbrev S1000x256 : Shape := ⟨2, ![1000, 256]⟩

abbrev nBuf : Space → Nat
  | .hbm => 28
  | .vmem => 19
  | .smem => 2
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S_, .i32⟩
  | .hbm, ⟨13, _⟩ => ⟨S1792, .i32⟩
  | .hbm, ⟨14, _⟩ => ⟨S161792, .i32⟩
  | .hbm, ⟨15, _⟩ => ⟨S79x1x2048, .i32⟩
  | .hbm, ⟨16, _⟩ => ⟨S256x512, .bf16⟩
  | .hbm, ⟨17, _⟩ => ⟨S1x512, .f32⟩
  | .hbm, ⟨18, _⟩ => ⟨S512x512, .bf16⟩
  | .hbm, ⟨19, _⟩ => ⟨S1x512, .f32⟩
  | .hbm, ⟨20, _⟩ => ⟨S10496x512, .f32⟩
  | .hbm, ⟨21, _⟩ => ⟨S512x512, .bf16⟩
  | .hbm, ⟨22, _⟩ => ⟨S1x512, .f32⟩
  | .hbm, ⟨23, _⟩ => ⟨S512x512, .bf16⟩
  | .hbm, ⟨24, _⟩ => ⟨S1x512, .f32⟩
  | .hbm, ⟨25, _⟩ => ⟨S512x256, .bf16⟩
  | .hbm, ⟨26, _⟩ => ⟨S1x256, .f32⟩
  | .hbm, ⟨27, _⟩ => ⟨S10000x256, .f32⟩
  | .local _ .vmem, ⟨0, _⟩ => ⟨S2048x256, .f32⟩
  | .local _ .vmem, ⟨1, _⟩ => ⟨S2048x256, .f32⟩
  | .local _ .vmem, ⟨2, _⟩ => ⟨S1x1x2048, .i32⟩
  | .local _ .vmem, ⟨3, _⟩ => ⟨S1x1x2048, .i32⟩
  | .local _ .vmem, ⟨4, _⟩ => ⟨S256x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S10496x512, .f32⟩
  | .local _ .vmem, ⟨9, _⟩ => ⟨S1000x512, .f32⟩
  | .local _ .vmem, ⟨10, _⟩ => ⟨S1000x512, .f32⟩
  | .local _ .vmem, ⟨11, _⟩ => ⟨S512x512, .bf16⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x256, .bf16⟩
  | .local _ .vmem, ⟨16, _⟩ => ⟨S1x256, .f32⟩
  | .local _ .vmem, ⟨17, _⟩ => ⟨S1000x256, .f32⟩
  | .local _ .vmem, ⟨18, _⟩ => ⟨S1000x256, .f32⟩
  | .local _ .smem, ⟨0, _⟩ => ⟨S1x1x2048, .i32⟩
  | .local _ .smem, ⟨1, _⟩ => ⟨S1x1x2048, .i32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![79], ![false]⟩

def k0_off1 (arg9 : BitVec 32) : Fin 3 → Nat :=
  let c0_18 : Index := 0#32
  let c0_19 : Index := 0#32
  let v38 : Index := Scalar.indexCast arg9
  ![0, 0, v38.toNat]

def k0_chk1 (arg9 : BitVec 32) : Prop :=
  (∀ a, (k0_off1 arg9) a + S1x1x1.size a ≤ S1x1x2048.size a)
theorem k0_off1_inb : ∀ (arg9 : BitVec 32) (k0_hw1 : k0_chk1 arg9), ∀ a, (k0_off1 arg9) a + S1x1x1.size a ≤ S1x1x2048.size a := fun arg9 k0_hw1 => k0_hw1

def k0_off2 (v39 : BitVec 32) : Fin 2 → Nat :=
  let c0_i32_20 : BitVec 32 := 0#32
  let v41 : BitVec 1 := Scalar.cmpi .sgt v39 c0_i32_20
  let v42 : BitVec 32 := Scalar.extui v41
  let c0_i32_21 : BitVec 32 := 0#32
  let v43 : BitVec 1 := Scalar.cmpi .slt v39 c0_i32_21
  let v44 : BitVec 32 := Scalar.extui v43
  let v45 : BitVec 32 := Scalar.subi v42 v44
  let c8_i32 : BitVec 32 := 8#32
  let c0_i32_22 : BitVec 32 := 0#32
  let v46 : BitVec 1 := Scalar.cmpi .sgt c8_i32 c0_i32_22
  let v47 : BitVec 32 := Scalar.extui v46
  let c0_i32_23 : BitVec 32 := 0#32
  let v48 : BitVec 1 := Scalar.cmpi .slt c8_i32 c0_i32_23
  let v49 : BitVec 32 := Scalar.extui v48
  let v50 : BitVec 32 := Scalar.subi v47 v49
  let v51 : BitVec 1 := Scalar.cmpi .ne v45 v50
  let v52 : BitVec 32 := Scalar.remsi v39 c8_i32
  let c0_i32_24 : BitVec 32 := 0#32
  let v53 : BitVec 1 := Scalar.cmpi .ne v52 c0_i32_24
  let v54 : BitVec 1 := Scalar.andi v51 v53
  let v40 : BitVec 32 := Scalar.divsi v39 c8_i32
  let c1_i32 : BitVec 32 := 1#32
  let v55 : BitVec 32 := Scalar.subi v40 c1_i32
  let v56 : BitVec 32 := Scalar.select v54 v55 v40
  let c8_i32_25 : BitVec 32 := 8#32
  let v57 : BitVec 32 := Scalar.muli v56 c8_i32_25
  let v67 : Index := Scalar.indexCast v57
  let c0_27 : Index := 0#32
  ![v67.toNat, 0]

def k0_chk2 (v39 : BitVec 32) : Prop :=
  (∀ a, (k0_off2 v39) a + S256x512.size a ≤ S10496x512.size a)
theorem k0_off2_inb : ∀ (v39 : BitVec 32) (k0_hw2 : k0_chk2 v39), ∀ a, (k0_off2 v39) a + S256x512.size a ≤ S10496x512.size a := fun v39 k0_hw2 => k0_hw2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10496x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S160000x256 : Shape := ⟨2, ![160000, 256]⟩
abbrev S160000 : Shape := ⟨1, ![160000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S160000x512 : Shape := ⟨2, ![160000, 512]⟩
abbrev S1x512 : Shape := ⟨2, ![1, 512]⟩
abbrev S_ : Shape := ⟨0, ![]⟩
abbrev S10000x512 : Shape := ⟨2, ![10000, 512]⟩
abbrev S160000x1 : Shape := ⟨2, ![160000, 1]⟩
abbrev S10000x256 : Shape := ⟨2, ![10000, 256]⟩
abbrev S1x256 : Shape := ⟨2, ![1, 256]⟩

abbrev nBuf : Space → Nat
  | .hbm => 48
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S160000x512, .f32⟩
  | .hbm, ⟨13, _⟩ => ⟨S1x512, .f32⟩
  | .hbm, ⟨14, _⟩ => ⟨S160000x512, .f32⟩
  | .hbm, ⟨15, _⟩ => ⟨S160000x512, .f32⟩
  | .hbm, ⟨16, _⟩ => ⟨S_, .f32⟩
  | .hbm, ⟨17, _⟩ => ⟨S160000x512, .f32⟩
  | .hbm, ⟨18, _⟩ => ⟨S160000x512, .f32⟩
  | .hbm, ⟨19, _⟩ => ⟨S160000x512, .f32⟩
  | .hbm, ⟨20, _⟩ => ⟨S1x512, .f32⟩
  | .hbm, ⟨21, _⟩ => ⟨S160000x512, .f32⟩
  | .hbm, ⟨22, _⟩ => ⟨S160000x512, .f32⟩
  | .hbm, ⟨23, _⟩ => ⟨S_, .f32⟩
  | .hbm, ⟨24, _⟩ => ⟨S160000x512, .f32⟩
  | .hbm, ⟨25, _⟩ => ⟨S160000x512, .f32⟩
  | .hbm, ⟨26, _⟩ => ⟨S_, .f32⟩
  | .hbm, ⟨27, _⟩ => ⟨S10000x512, .f32⟩
  | .hbm, ⟨28, _⟩ => ⟨S160000x1, .i32⟩
  | .hbm, ⟨29, _⟩ => ⟨S10000x512, .f32⟩
  | .hbm, ⟨30, _⟩ => ⟨S10000x512, .f32⟩
  | .hbm, ⟨31, _⟩ => ⟨S1x512, .f32⟩
  | .hbm, ⟨32, _⟩ => ⟨S10000x512, .f32⟩
  | .hbm, ⟨33, _⟩ => ⟨S10000x512, .f32⟩
  | .hbm, ⟨34, _⟩ => ⟨S_, .f32⟩
  | .hbm, ⟨35, _⟩ => ⟨S10000x512, .f32⟩
  | .hbm, ⟨36, _⟩ => ⟨S10000x512, .f32⟩
  | .hbm, ⟨37, _⟩ => ⟨S10000x512, .f32⟩
  | .hbm, ⟨38, _⟩ => ⟨S1x512, .f32⟩
  | .hbm, ⟨39, _⟩ => ⟨S10000x512, .f32⟩
  | .hbm, ⟨40, _⟩ => ⟨S10000x512, .f32⟩
  | .hbm, ⟨41, _⟩ => ⟨S_, .f32⟩
  | .hbm, ⟨42, _⟩ => ⟨S10000x512, .f32⟩
  | .hbm, ⟨43, _⟩ => ⟨S10000x512, .f32⟩
  | .hbm, ⟨44, _⟩ => ⟨S10000x256, .f32⟩
  | .hbm, ⟨45, _⟩ => ⟨S1x256, .f32⟩
  | .hbm, ⟨46, _⟩ => ⟨S10000x256, .f32⟩
  | .hbm, ⟨47, _⟩ => ⟨S10000x256, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call2_cst : Ref sig .tc := ⟨.hbm, 34, rfl⟩
abbrev main_call2_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call3_cst : Ref sig .tc := ⟨.hbm, 41, rfl⟩
abbrev main_call3_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Proof.Pre.lean ====
/-
  The precondition read at the ids: each names a cell, and they are in order.
-/
module

public import proofs.«01_k».proof.Pre_ids_sorted_in_range
public import Idealize.ShloMosaic.Lib.ValueIdxCore
public import Idealize.ShloMosaic.Lib.Pipeline.Value

@[expose] public section

noncomputable section

namespace Cert.PreIds

open Idealize.ShloMosaic Idealize.ShloMosaic.ValueIdx Cert.Pre_ids_sorted_in_range

theorem and_bits (p q : Bool) : IntOp.andi (BitVec.ofBool p) (BitVec.ofBool q) = BitVec.ofBool (p && q) := by
  cases p <;> cases q <;> decide
theorem bit_one (p : Bool) : (BitVec.ofBool p = 1#1) ↔ p = true := by cases p <;> decide

/-- The ids shifted by one, the first kept in its place. -/
theorem shifted [Facts] (ids : IVec S160000 32) (k : ℕ) (hk : k + 1 < 160000) :
    concatenate S160000 0 [⟨S1, extractStridedSlice S1 ![0] ids Facts.slices_S160000_S1_0⟩,
      ⟨S159999, extractStridedSlice S159999 ![0] ids Facts.slices_S160000_S159999_0⟩] Facts.concatenates_S1_S159999_S160000_d0
      (ix1 ⟨k + 1, hk⟩) = ids (ix1 ⟨k, by omega⟩) := by
  refine (concatenate_pair_apply_right (t := S160000) (s₁ := S1) (s₂ := S159999) 0 _ _ _ _ rfl rfl (ix1 ⟨k, by omega⟩) ?_ ?_).trans ?_
  · intro b hb; exact absurd (Subsingleton.elim (α := Fin 1) _ _) hb
  · rfl
  · refine extractStridedSlice_apply (s := S160000) (t := S159999) _ _ _ _ _ ?_
    intro a
    match a with
    | ⟨0, _⟩ => show k = 0 + k; omega

/-- The precondition at an id and its predecessor. -/
theorem decoded [Facts] {F : FTy → Type} [FloatOps F] {a0 : FVec F S160000x256 .f32} {ids : IVec S160000 32} {a2 : FVec F S256x512 .f32}
    {a3 : FVec F S512 .f32} {a4 : FVec F S512x512 .f32} {a5 : FVec F S512 .f32} {a6 : FVec F S512x512 .f32} {a7 : FVec F S512 .f32}
    {a8 : FVec F S512x512 .f32} {a9 : FVec F S512 .f32} {a10 : FVec F S512x256 .f32} {a11 : FVec F S256 .f32}
    (h : fn a0 ids a2 a3 a4 a5 a6 a7 a8 a9 a10 a11 = fun _ => 1#1) :
    (∀ k : Fin 160000, (ids (ix1 k)).toNat < 10000)
      ∧ ∀ j k : Fin 160000, j ≤ k → (ids (ix1 j)).toNat ≤ (ids (ix1 k)).toNat := by
  have e : ∀ k : Fin 160000, ((0#32).sle (ids (ix1 k)) = true ∧ (ids (ix1 k)).slt 10000#32 = true)
      ∧ (concatenate S160000 0 [⟨S1, extractStridedSlice S1 ![0] ids Facts.slices_S160000_S1_0⟩,
        ⟨S159999, extractStridedSlice S159999 ![0] ids Facts.slices_S160000_S159999_0⟩] Facts.concatenates_S1_S159999_S160000_d0 (ix1 k)).sle (ids (ix1 k)) = true := by
    intro k
    have e := congrFun h (ix1 k)
    simp only [fn, andi, cmpi, broadcastInDim, constantI, IntOp.cmpi, and_bits, bit_one, Bool.and_eq_true] at e
    exact e
  have hlt : ∀ k : Fin 160000, (ids (ix1 k)).toNat < 10000 := by
    intro k
    obtain ⟨⟨hge, hlt⟩, -⟩ := e k
    generalize ids (ix1 k) = w at hge hlt
    simp only [BitVec.sle, BitVec.slt, decide_eq_true_eq, BitVec.toInt, BitVec.toNat_ofNat] at hge hlt
    omega
  refine ⟨hlt, ?_⟩
  have hstep : ∀ (k : ℕ) (hk : k + 1 < 160000), (ids (ix1 ⟨k, by omega⟩)).toNat ≤ (ids (ix1 ⟨k + 1, hk⟩)).toNat := by
    intro k hk
    have h2 := (e ⟨k + 1, hk⟩).2
    rw [shifted ids k hk] at h2
    have b1 := hlt ⟨k, by omega⟩
    have b2 := hlt ⟨k + 1, hk⟩
    generalize ids (ix1 ⟨k, _⟩) = w at h2 b1 ⊢
    generalize ids (ix1 ⟨k + 1, _⟩) = w' at h2 b2 ⊢
    simp only [BitVec.sle, decide_eq_true_eq, BitVec.toInt] at h2
    omega
  have hall : ∀ (d k : ℕ) (hk : k + d < 160000), (ids (ix1 ⟨k, by omega⟩)).toNat ≤ (ids (ix1 ⟨k + d, hk⟩)).toNat := by
    intro d
    induction d with
    | zero => intro k hk; exact le_refl _
    | succ d ih => intro k hk; exact (ih k (by omega)).trans (hstep (k + d) hk)
  intro j k hjk
  obtain ⟨d, hd⟩ := Nat.exists_eq_add_of_le (Fin.le_def.mp hjk)
  have hk : k = ⟨j.val + d, by rw [← hd]; exact k.isLt⟩ := Fin.ext hd
  rw [hk]
  exact hall d j.val _

end Cert.PreIds
-- ==== Proof.Words.lean ====
/-
  Words that the kernel computes with, as numbers: rounding down to a multiple of eight, and signed comparison.
-/
module

public import Idealize.ShloMosaic.PureOps
public import Mathlib.Data.BitVec

@[expose] public section

namespace Cert.Words

open Idealize.ShloMosaic

/-- The kernel's chain of integer operations that rounds a word down to a multiple of eight. -/
def floor8 (v39 : BitVec 32) : BitVec 32 :=
  Scalar.muli (Scalar.select
    (Scalar.andi
      (Scalar.cmpi .ne
        (Scalar.subi (Scalar.extui (Scalar.cmpi .sgt v39 0#32)) (Scalar.extui (Scalar.cmpi .slt v39 0#32)))
        (Scalar.subi (Scalar.extui (Scalar.cmpi .sgt 8#32 0#32)) (Scalar.extui (Scalar.cmpi .slt 8#32 0#32))))
      (Scalar.cmpi .ne (Scalar.remsi v39 8#32) 0#32))
    (Scalar.subi (Scalar.divsi v39 8#32) 1#32) (Scalar.divsi v39 8#32)) 8#32

theorem slt_iff_toNat (x y : BitVec 32) (hx : x.toNat < 2 ^ 31) (hy : y.toNat < 2 ^ 31) :
    x.slt y = decide (x.toNat < y.toNat) := by
  rw [BitVec.slt_eq_decide, BitVec.toInt_eq_toNat_of_lt (by omega), BitVec.toInt_eq_toNat_of_lt (by omega)]
  simp

/-- Of a word that names a cell (or the padding's), the chain gives the multiple of eight below it. -/
theorem floor8_toNat (v : BitVec 32) (h : v.toNat ≤ 10000) : (floor8 v).toNat = v.toNat / 8 * 8 := by
  have hm : v.msb = false := by rw [BitVec.msb_eq_false_iff_two_mul_lt]; omega
  have h8 : (8#32).msb = false := by decide
  have hd : Scalar.divsi v 8#32 = v / 8#32 := by
    show (if IntOp.SDivCorner v 8#32 then _ else v.sdiv 8#32) = _
    rw [if_neg (by rintro (h | ⟨_, h⟩) <;> exact absurd h (by decide)), BitVec.sdiv_eq, hm, h8]
    rfl
  by_cases h0 : v = 0#32
  · subst h0; decide +kernel
  · have hpos : 0 < v.toNat := by
      rcases Nat.eq_zero_or_pos v.toNat with hz | hz
      · exact absurd (BitVec.eq_of_toNat_eq (by rw [hz]; rfl)) h0
      · exact hz
    have hg : Scalar.cmpi .sgt v 0#32 = 1#1 := by
      show BitVec.ofBool ((0#32).slt v) = _
      rw [slt_iff_toNat _ _ (by decide) (by omega), decide_eq_true (show (0#32 : BitVec 32).toNat < v.toNat from hpos)]; rfl
    have hl : Scalar.cmpi .slt v 0#32 = 0#1 := by
      show BitVec.ofBool (v.slt 0#32) = _
      rw [slt_iff_toNat _ _ (by omega) (by decide), decide_eq_false (show ¬ v.toNat < (0#32 : BitVec 32).toNat from Nat.not_lt_zero _)]; rfl
    have hz : Scalar.cmpi .ne (Scalar.subi (Scalar.extui 1#1) (Scalar.extui 0#1))
        (Scalar.subi (Scalar.extui (Scalar.cmpi .sgt 8#32 0#32)) (Scalar.extui (Scalar.cmpi .slt 8#32 0#32))) = 0#1 := by decide
    have ha : ∀ x : BitVec 1, Scalar.andi 0#1 x = 0#1 := by decide
    unfold floor8
    rw [hg, hl, hz, ha, hd]
    show ((v / 8#32) * 8#32).toNat = _
    rw [BitVec.toNat_mul, BitVec.toNat_udiv]
    show (v.toNat / 8 * 8) % 2 ^ 32 = _
    omega

end Cert.Words
-- ==== Proof.OwnRules.lean ====
/-
  Loads and stores of a memref owned at known contents: a load returns the contents on its rectangle, a
  store leaves the contents with the rectangle's part replaced.
-/
module

public import Idealize.ShloMosaic.Lib.Memref

@[expose] public section

noncomputable section

namespace Cert.OwnRules

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U] {Lvl : Type} {Λ : Labels} [Preorder Lvl]

local notation "𝕄" => MT nD τ sig Ix Val Name U Lvl

variable {defs : Defs nD τ sig Val Λ} (𝒱 : Variants) (c : Thread nD τ) (bd : Option 𝒱.V) {Γ : PendingWaitsCtx sig Ix} (E : Set Name)
variable {s : Shape} {e : EltTy} {α : Type} {Q : α → sProp (MT nD τ sig Ix Val Name U Lvl)}

/-- A load of a rectangle returns the owned contents there. -/
theorem own_load {cs : CoreSpace} (m : Memref sig c.2.kind cs s e) (r : Rect s) {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k fun x => X (r.emb x)) Q)
        -∗ wp frame (wpE' defs 𝒱 c bd Γ) E (.op (.load m r.toLoadRect hl) k) Q) := by
  iintro H Hk
  ihave H' := (show (owns c m q X : sProp 𝕄) ⊢ iprop(∃ f, ⌜m.view.read Val f = X⌝ ∗ (m.view.loc c ↦[m.view.set]{q} f)) from .rfl) $$ H
  icases H' with ⟨%f, %hf, H⟩
  subst hf
  iapply (wp_load 𝒱 c bd E (m := m) (View.setOn_subset_set _ _)) $$ H
  iintro H
  iapply Hk
  iapply (owns_intro c m q); iexact H

/-- What a memref reads after a store of a whole rectangle: what it read, with that rectangle's part replaced. -/
theorem read_store {κ : Kind} {cs : Space} (m : Memref sig κ cs s e) (r : Rect s) (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    exact (View.read_slice_write_emb (v := m.view) r f w (Finset.mem_univ i)).trans (Rect.overlay_emb r _ w i).symm
  · rw [Rect.overlay_of_not_mem _ _ _ hj]
    exact View.read_slice_write_of_not_mem (v := m.view) r f w _ (by rw [r.map_emb_univ]; exact hj)

/-- A store of a whole rectangle replaces the owned contents there. -/
theorem own_store {cs : CoreSpace} (m : Memref sig c.2.kind cs s e) (r : Rect s) {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  iintro H Hk
  ihave H' := (show (owns c m fullShare X : sProp 𝕄) ⊢ iprop(∃ f, ⌜m.view.read Val f = X⌝ ∗ (m.view.loc c ↦[m.view.set]{fullShare} f)) from .rfl) $$ H
  icases H' with ⟨%f, %hf, H⟩
  subst hf
  iapply (wp_store 𝒱 c bd E (m := m) (r := r) (w := w) (Mk := Finset.univ) (hx := hx) (hm := hm) (k := k)
    (S := m.view.set) (View.set_slice_subset m.view r)) $$ H
  iintro H
  iapply Hk
  rw [← read_store m r f w]
  iapply (owns_intro c m fullShare); iexact H

/-- The rectangle at the origin, as large as the shape, places every index at itself. -/
theorem full_emb (off : Fin s.rank → ℕ) (h0 : ∀ a, off a = 0) (h : ∀ a, off a + s.size a ≤ s.size a) (x : s.Idx) :
    (Rect.unit (s := s) off s.size h).emb x = x := by
  funext a
  refine Fin.ext ?_
  show off a + 1 * (x a).val = (x a).val
  rw [h0 a]; omega

/-- Replacing the part of contents on that rectangle replaces them all. -/
theorem full_overlay {β : Type} (off : Fin s.rank → ℕ) (h0 : ∀ a, off a = 0) (h : ∀ a, off a + s.size a ≤ s.size a)
    (X w : s.Idx → β) : (Rect.unit (s := s) off s.size h).overlay X w = w := by
  funext x
  have := Rect.overlay_emb (Rect.unit (s := s) off s.size h) X w x
  rwa [full_emb off h0 h x] at this

/-- A load of the rectangle at the origin as large as the memref returns the owned contents. -/
theorem own_load_full {cs : CoreSpace} (m : Memref sig c.2.kind cs s e) (off : Fin s.rank → ℕ) (h0 : ∀ a, off a = 0)
    (h : ∀ a, off a + s.size a ≤ s.size a) {hl : m.view.LoadsAt (Rect.unit (s := s) off s.size h).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Q)
        -∗ wp frame (wpE' defs 𝒱 c bd Γ) E (.op (.load m (Rect.unit (s := s) off s.size h).toLoadRect hl) k) Q) := by
  have hX : (fun x : s.Idx => X ((Rect.unit (s := s) off s.size h).emb x)) = X := funext fun x => congrArg X (full_emb off h0 h x)
  have hb := own_load (defs := defs) 𝒱 c bd (Γ := Γ) E (Q := Q) m (Rect.unit (s := s) off s.size h) (hl := hl) (k := k) (q := q) (X := X)
  have hk : k (fun x => X ((Rect.unit (s := s) off s.size h).emb x)) = k X := congrArg k hX
  rw [← hk]; exact hb

/-- A store of that rectangle replaces the owned contents. -/
theorem own_store_full {cs : CoreSpace} (m : Memref sig c.2.kind cs s e) (off : Fin s.rank → ℕ) (h0 : ∀ a, off a = 0)
    (h : ∀ a, off a + s.size a ≤ s.size a) {w : s.Idx → Val e}
    {hx : (m.access (Rect.unit (s := s) off s.size h)).Stores Finset.univ}
    {hm : (Finset.univ : Finset (Rect.unit (s := s) off s.size h).shape.Idx) = Finset.univ ∨ ∀ a, (Rect.unit (s := s) off s.size h).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Q)
        -∗ wp frame (wpE' defs 𝒱 c bd Γ) E (.op (.store m (Rect.unit (s := s) off s.size h) w Finset.univ hx hm) k) Q) := by
  have hb := own_store (defs := defs) 𝒱 c bd (Γ := Γ) E (Q := Q) m (Rect.unit (s := s) off s.size h) (w := w) (hx := hx) (hm := hm) (k := k) (X := X)
  rwa [full_overlay off h0 h X w] at hb

end Cert.OwnRules
-- ==== Proof.KI.Ids.lean ====
/-
  The segment ids of one block of chunks, as numbers: the row at which a window of cells starts, the
  number of chunks whose cell lies below the window's end, and what sortedness makes of that number.
-/
module

public import proofs.«01_k».proof.Proof.Gen.KernelIdeal.Skeleton
public import proofs.«01_k».proof.Proof.Words
public import Idealize.ShloMosaic.Lib.WordSum
public import Idealize.ShloMosaic.Lib.ValueIdxCore
public import Idealize.ShloMosaic.Lib.Pipeline.Value

@[expose] public section

noncomputable section

namespace Cert.KernelIdeal.Seg

open Idealize.ShloMosaic Idealize.ShloMosaic.ValueIdx Idealize.SL.Sem
open Cert.Words Cert.KernelIdeal Cert.KernelIdeal.Gen

variable {F : FTy → Type} [FloatOps F]

theorem off2_eq (v : BitVec 32) (h : v.toNat ≤ 10000) : k0_off2 v = ![v.toNat / 8 * 8, 0] := by
  rw [← floor8_toNat v h]; rfl

theorem chk2_of (v : BitVec 32) (h : v.toNat ≤ 10000) : k0_chk2 v := by
  unfold k0_chk2; rw [off2_eq v h]
  intro a
  match a with
  | ⟨0, _⟩ => show v.toNat / 8 * 8 + 256 ≤ 10496; omega
  | ⟨1, _⟩ => show 0 + 512 ≤ 512; omega

theorem off1_eq (a : BitVec 32) : k0_off1 a = ![0, 0, a.toNat] := rfl

theorem chk1_of (a : BitVec 32) (h : a.toNat < 2048) : k0_chk1 a := by
  unfold k0_chk1; rw [off1_eq]
  intro x
  match x with
  | ⟨0, _⟩ => show 0 + 1 ≤ 1; omega
  | ⟨1, _⟩ => show 0 + 1 ≤ 1; omega
  | ⟨2, _⟩ => show a.toNat + 1 ≤ 2048; omega

/-- The block's `j`-th segment id. -/
def idw (X : Vec F S1x1x2048 .i32) (j : Fin 2048) : BitVec 32 := X (ix3 0 0 j)

/-- The block's `j`-th segment id as a number. -/
def idn (X : Vec F S1x1x2048 .i32) (j : Fin 2048) : ℕ := (idw X j).toNat

/-- The ids of a block are at most the padding's and in order. -/
structure Good (X : Vec F S1x1x2048 .i32) : Prop where
  le : ∀ j, idn X j ≤ 10000
  mono : ∀ j k : Fin 2048, j ≤ k → idn X j ≤ idn X k

/-- How many of the block's ids lie below `B`. -/
def below (X : Vec F S1x1x2048 .i32) (B : ℕ) : ℕ := (Finset.univ.filter fun j : Fin 2048 => idn X j < B).card

theorem below_le (X : Vec F S1x1x2048 .i32) (B : ℕ) : below X B ≤ 2048 := by
  unfold below
  calc _ ≤ (Finset.univ : Finset (Fin 2048)).card := Finset.card_le_card (Finset.filter_subset _ _)
    _ = 2048 := by simp

/-- In order, the ids below `B` are the first ones. -/
theorem lt_below_iff {X : Vec F S1x1x2048 .i32} (h : Good X) (B : ℕ) (j : Fin 2048) :
    j.val < below X B ↔ idn X j < B := by
  constructor
  · intro hj
    by_contra hc
    have hsub : (Finset.univ.filter fun k : Fin 2048 => idn X k < B) ⊆ Finset.Iio j := by
      intro k hk
      rw [Finset.mem_filter] at hk
      rw [Finset.mem_Iio]
      by_contra hkj
      have := h.mono j k (not_lt.mp hkj)
      omega
    have := Finset.card_le_card hsub
    rw [Fin.card_Iio] at this
    unfold below at hj; omega
  · intro hj
    have hsub : Finset.Iic j ⊆ (Finset.univ.filter fun k : Fin 2048 => idn X k < B) := by
      intro k hk
      rw [Finset.mem_Iic] at hk
      rw [Finset.mem_filter]
      exact ⟨Finset.mem_univ _, lt_of_le_of_lt (h.mono k j hk) hj⟩
    have := Finset.card_le_card hsub
    rw [Fin.card_Iic] at this
    unfold below; omega

theorem pay1_apply (X : Vec F S1x1x2048 .i32) (j : Fin 2048) : k0_pay1 X (ix2 0 j) = idw X j := by
  unfold k0_pay1 idw
  exact shapeCast_apply X _ _ _ (by
    rw [Shape.rowMajor_val_three, Shape.rowMajor_val_two]
    show (0 * 1 + 0) * 2048 + j.val = 0 * 2048 + j.val
    omega)

/-- The place a trip of the loop hands to the next: the number of ids below the end of its window. -/
def nextw (X : Vec F S1x1x2048 .i32) (v39 : BitVec 32) : BitVec 32 :=
  extractAt ![0, 0, 0] (k0_pay5 (F := F) (k0_pay1 X) v39) inpos_S1x1x1_p0_0_0

theorem nextw_toNat {X : Vec F S1x1x2048 .i32} (h : Good X) (v39 : BitVec 32) (hv : v39.toNat ≤ 10000) :
    (nextw X v39).toNat = below X (v39.toNat / 8 * 8 + 256) := by
  have hw : (floor8 v39 + 256#32).toNat = v39.toNat / 8 * 8 + 256 := by
    rw [BitVec.toNat_add, floor8_toNat v39 hv]
    show (_ + 256) % 2 ^ 32 = _
    omega
  have hc : ∀ (x : IVec S1x2048 1) (i : S1x1x2048.Idx),
      shapeCast S1x1x2048 (extui 32 x natLt_1_32) shapeCasts_S1x2048_S1x1x2048 i = (x (ix2 0 (i 2))).setWidth 32 := by
    intro x i
    refine (shapeCast_apply _ _ _ (ix2 0 (i 2)) ?_).trans rfl
    rw [Shape.rowMajor_val_three, Shape.rowMajor_val_two]
    have h0 : (i 0).val < 1 := (i 0).isLt
    have h1 : (i 1).val < 1 := (i 1).isLt
    show 0 * 2048 + (i 2).val = ((i 0).val * 1 + (i 1).val) * 2048 + (i 2).val
    omega
  have hterm : ∀ i : S1x1x2048.Idx,
      (shapeCast S1x1x2048 (extui 32 (cmpi .slt (k0_pay1 X) (broadcast S1x2048 (floor8 v39 + 256#32))) natLt_1_32)
        shapeCasts_S1x2048_S1x1x2048 i).toNat = if idn X (i 2) < v39.toNat / 8 * 8 + 256 then 1 else 0 := by
    intro i
    rw [hc]
    show (BitVec.setWidth 32 (BitVec.ofBool ((k0_pay1 X (ix2 0 (i 2))).slt (floor8 v39 + 256#32)))).toNat = _
    rw [show k0_pay1 X (ix2 0 (i 2)) = idw X (i 2) from pay1_apply X (i 2), slt_iff_toNat _ _ (by have := h.le (i 2); unfold idn at this; omega) (by rw [hw]; omega), hw]
    by_cases hi : idn X (i 2) < v39.toNat / 8 * 8 + 256
    · rw [if_pos hi, show decide ((idw X (i 2)).toNat < v39.toNat / 8 * 8 + 256) = true from decide_eq_true hi]; rfl
    · rw [if_neg hi, show decide ((idw X (i 2)).toNat < v39.toNat / 8 * 8 + 256) = false from decide_eq_false hi]; rfl
  have hsum : (∑ i : S1x1x2048.Idx, if idn X (i 2) < v39.toNat / 8 * 8 + 256 then 1 else 0)
      = below X (v39.toNat / 8 * 8 + 256) := by
    unfold below
    rw [Finset.card_filter]
    refine Fintype.sum_bijective (fun i : S1x1x2048.Idx => i 2) ?_ _ _ fun i => rfl
    constructor
    · intro a b hab
      funext x
      match x with
      | ⟨0, _⟩ => exact Subsingleton.elim (α := Fin 1) _ _
      | ⟨1, _⟩ => exact Subsingleton.elim (α := Fin 1) _ _
      | ⟨2, _⟩ => exact hab
    · intro j
      exact ⟨ix3 0 0 j, rfl⟩
  have hfil : ∀ j : S1.Idx, (Finset.univ.filter fun i : S1x1x2048.Idx => reduces_S1x1x2048_S1.drop i = j) = Finset.univ := by
    intro j
    refine Finset.filter_true_of_mem fun i _ => funext fun a => ?_
    match a with
    | ⟨0, _⟩ => exact Subsingleton.elim (α := Fin 1) _ _
  have hred := WordSum.toNat_multiReductionI_add
    (shapeCast S1x1x2048 (extui 32 (cmpi .slt (k0_pay1 X) (broadcast S1x2048 (floor8 v39 + 256#32))) natLt_1_32)
      shapeCasts_S1x2048_S1x1x2048) reduces_S1x1x2048_S1 rfl
    (Shape.reshapeEquiv shapeCasts_S1_S1x1x1 fun a => ⟨![0, 0, 0] a, inpos_S1x1x1_p0_0_0 a⟩)
  rw [hfil] at hred
  refine (hred ?_).trans ?_
  rotate_left
  · refine (Finset.sum_congr rfl fun i _ => hterm i).trans hsum
  · refine lt_of_eq_of_lt ((Finset.sum_congr rfl fun i _ => hterm i).trans hsum) ?_
    have := below_le X (v39.toNat / 8 * 8 + 256)
    omega

end Cert.KernelIdeal.Seg
-- ==== Proof.KI.Loop.lean ====
/-
  The loop of the first kernel: what one trip makes of the sums, the loop's result as a function of the
  block's ids and features, and the proof that the loop's program, holding the ids and the sums, ends
  with the sums at that function's value.
-/
module

public import proofs.«01_k».proof.Proof.KI.Ids
public import proofs.«01_k».proof.Proof.OwnRules
public import Idealize.ShloMosaic.Lib.Pipeline.Sound
public import Idealize.ShloMosaic.Lib.Tactic

@[expose] public section

noncomputable section

namespace Cert.KernelIdeal.Seg

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words Cert.OwnRules Cert.KernelIdeal Cert.KernelIdeal.Gen

variable {F : FTy → Type} [FloatOps F]

/-- The resource algebra: the rounds library's over the staging cells. -/
abbrev UR (nD : Nat) (τ : Topo) := URounds (GSem nD τ sig) Unit

local notation "𝕄" => MT nD τ sig Unit (Elt F) ℕ (UR nD τ) ℕ

/-- A loop's variant is the number of trips it may still make. -/
abbrev 𝒱₀ : Variants := Variants.nat

/-- The window of cells that the trip reading the word `v` updates: 256 rows from a multiple of eight. -/
abbrev window (v : BitVec 32) (h : k0_chk2 v) : Rect S10496x512 :=
  Rect.unit (s := S10496x512) (k0_off2 v) S256x512.size (k0_off2_inb v h)

/-- One trip: the window's sums have the window's chunks added. -/
def trip (X : Vec F S1x1x2048 .i32) (v34 : FVec F S2048x512 .bf16) (v : BitVec 32) (h : k0_chk2 v)
    (A : Vec F S10496x512 .f32) : Vec F S10496x512 .f32 :=
  (window v h).overlay A (k0_pay4 (k0_pay1 X) v34 v fun x => A ((window v h).emb x))

/-- The loop from the `p`-th chunk on, for at most `k` trips. -/
def loopRes (X : Vec F S1x1x2048 .i32) (v34 : FVec F S2048x512 .bf16) : ℕ → BitVec 32 → Vec F S10496x512 .f32 → Vec F S10496x512 .f32
  | 0, _, A => A
  | k + 1, p, A =>
    if hp : p.toNat < 2048 then
      if hv : k0_chk2 (idw X ⟨p.toNat, hp⟩) then
        loopRes X v34 k (nextw X (idw X ⟨p.toNat, hp⟩)) (trip X v34 (idw X ⟨p.toNat, hp⟩) hv A)
      else A
    else A

theorem loopRes_done (X : Vec F S1x1x2048 .i32) (v34 : FVec F S2048x512 .bf16) (k : ℕ) (p : BitVec 32) (A : Vec F S10496x512 .f32)
    (hp : ¬ p.toNat < 2048) : loopRes X v34 k p A = A := by
  cases k with
  | zero => rfl
  | succ k => rw [loopRes, dif_neg hp]

theorem loopRes_trip {X : Vec F S1x1x2048 .i32} (hX : Good X) (v34 : FVec F S2048x512 .bf16) (k : ℕ) (p : BitVec 32) (A : Vec F S10496x512 .f32)
    (hp : p.toNat < 2048) :
    loopRes X v34 (k + 1) p A = loopRes X v34 k (nextw X (idw X ⟨p.toNat, hp⟩))
      (trip X v34 (idw X ⟨p.toNat, hp⟩) (chk2_of _ (hX.le _)) A) := by
  rw [loopRes, dif_pos hp, dif_pos (chk2_of _ (hX.le _))]

/-- The test of the loop: chunks are left. -/
theorem test_iff (p : BitVec 32) (hp : p.toNat ≤ 2048) : Scalar.cmpi .slt p 2048#32 = 1#1 ↔ p.toNat < 2048 := by
  show BitVec.ofBool (p.slt 2048#32) = 1#1 ↔ _
  rw [slt_iff_toNat _ _ (by omega) (by decide)]
  show BitVec.ofBool (decide (p.toNat < 2048)) = 1#1 ↔ _
  by_cases h : p.toNat < 2048
  · simp [h]
  · simp [h]

/-- A trip goes forward. -/
theorem next_gt {X : Vec F S1x1x2048 .i32} (hX : Good X) (p : Fin 2048) : p.val < (nextw X (idw X p)).toNat := by
  rw [nextw_toNat hX _ (hX.le p), lt_below_iff hX]
  show idn X p < idn X p / 8 * 8 + 256
  omega

theorem next_le {X : Vec F S1x1x2048 .i32} (hX : Good X) (p : Fin 2048) : (nextw X (idw X p)).toNat ≤ 2048 := by
  rw [nextw_toNat hX _ (hX.le p)]; exact below_le _ _

/-- The word of scalar memory that the trip at `p` reads is the `p`-th id. -/
theorem word_at (X : Vec F S1x1x2048 .i32) (p : BitVec 32) (h : k0_chk1 p) (hp : p.toNat < 2048) (hn) :
    X ((Rect.unit (s := S1x1x2048) (k0_off1 p) ![1, 1, 1] (k0_off1_inb p h)).emb (Shape.Idx.first hn)) = idw X ⟨p.toNat, hp⟩ := by
  unfold idw
  congr 1
  funext a
  refine Fin.ext ?_
  match a with
  | ⟨0, _⟩ => rfl
  | ⟨1, _⟩ => rfl
  | ⟨2, _⟩ => show p.toNat + 1 * 0 = p.toNat; omega

section Label

variable (c : Dev nD) (i : grid0.Coords) (arg1 : Memref sig .tc .smem S1x1x2048 .i32) (harg1 : arg1.IsWhole)
  (v34 : FVec F S2048x512 .bf16) (arg8 : Memref sig .tc .vmem S10496x512 .f32) (harg8 : arg8.IsWhole) (X : Vec F S1x1x2048 .i32)

/-- What the loop holds: the block's ids in scalar memory, and the sums. -/
def held (A : Vec F S10496x512 .f32) : sProp 𝕄 :=
  iprop(owns (c : Thread nD τ) arg1 fullShare X ∗ owns (c : Thread nD τ) arg8 fullShare A)

/-- The loop with at most `k` trips to make from `p`: it returns some word, with the sums at the loop's result. -/
def spec (k : ℕ) (p : BitVec 32) (A : Vec F S10496x512 .f32) : sWPT 𝕄 (BitVec 32) := do
  sWPT.consume (held c arg1 arg8 X A)
  let r ← sWPT.arbitrary
  sWPT.produce (held c arg1 arg8 X (loopRes X v34 k p A))
  pure r

theorem spec_apply (k : ℕ) (p : BitVec 32) (A : Vec F S10496x512 .f32) (K : BitVec 32 → sProp 𝕄) :
    spec c arg1 v34 arg8 X k p A K
      = iprop(held c arg1 arg8 X A ∗ ∀ r : BitVec 32, held c arg1 arg8 X (loopRes X v34 k p A) -∗ K r) := rfl

variable {X}

theorem spec_le (hX : Good X) (E : Set ℕ) :
    ∀ k p, p.toNat ≤ 2048 → 2048 ≤ p.toNat + k → ∀ A K, spec c arg1 v34 arg8 X k p A K
      ⊢ wp frame (wpE (defs₀ (F := F)) 𝒱₀ (c : Thread nD τ) (some k)) E
          (defs₀ (F := F) .tc 2 ⟨i, arg1, harg1, k0_pay1 X, v34, arg8, harg8, p⟩) K := by
  intro k
  induction k with
  | zero =>
    intro p hp hk A K
    rw [spec_apply]
    show _ ⊢ wp frame (wpE (defs₀ (F := F)) 𝒱₀ (c : Thread nD τ) (some 0)) E
      (cc0_while1 i arg1 harg1 (k0_pay1 X) v34 arg8 harg8 p) K
    simp only [cc0_while1_eq_skeleton]; unfold cc0_while1_skel
    have ht : ¬ Scalar.cmpi .slt p 2048#32 = 1#1 := by rw [test_iff p hp]; omega
    simp only [ht, ↓reduceIte, Prog.pure_eq_ret]
    iintro ⟨H, Hk⟩
    rw [wp_ret]; imodintro
    iapply Hk
    iexact H
  | succ k ih =>
    intro p hp hk A K
    rw [spec_apply]
    show _ ⊢ wp frame (wpE (defs₀ (F := F)) 𝒱₀ (c : Thread nD τ) (some (k + 1))) E
      (cc0_while1 i arg1 harg1 (k0_pay1 X) v34 arg8 harg8 p) K
    simp only [cc0_while1_eq_skeleton]; unfold cc0_while1_skel
    by_cases hlt : p.toNat < 2048
    · have ht : Scalar.cmpi .slt p 2048#32 = 1#1 := (test_iff p hp).2 hlt
      have hc1 : k0_chk1 p := chk1_of p hlt
      have hc2 : k0_chk2 (idw X ⟨p.toNat, hlt⟩) := chk2_of _ (hX.le _)
      have hp' := next_le hX ⟨p.toNat, hlt⟩
      have hgt : p.toNat < _ := next_gt hX ⟨p.toNat, hlt⟩
      rw [loopRes_trip hX v34 k p A hlt]
      simp only [k0_part2_eq_skeleton]; unfold k0_part2_skel
      simp only [ht, ↓reduceIte, smemLoad, smemLoadElt, Prog.lift, Prog.bind_op, Prog.bind_ret, Prog.pure_eq_ret]
      unfold held
      iintro ⟨⟨H1, H8⟩, Hk⟩
      iapply (wp_assume 𝒱₀ (c : Thread nD τ) (some (k + 1)) E hc1)
      iapply (own_load 𝒱₀ (c : Thread nD τ) (some (k + 1)) E arg1 _) $$ H1; iintro H1
      beta_reduce
      have hw := word_at X p hc1 hlt (Nat.lt_of_lt_of_eq Nat.one_pos numel1_S1x1x1.symm)
      generalize X ((Rect.unit (s := S1x1x2048) (k0_off1 p) ![1, 1, 1] (k0_off1_inb p hc1)).emb (Shape.Idx.first _)) = v39 at hw ⊢
      subst hw
      iapply (wp_assume 𝒱₀ (c : Thread nD τ) (some (k + 1)) E hc2)
      iapply (own_load 𝒱₀ (c : Thread nD τ) (some (k + 1)) E arg8 _) $$ H8; iintro H8
      iapply (own_load 𝒱₀ (c : Thread nD τ) (some (k + 1)) E arg8 _) $$ H8; iintro H8
      iapply (own_store 𝒱₀ (c : Thread nD τ) (some (k + 1)) E arg8 _) $$ H8; iintro H8
      have hn : extractAt ![0, 0, 0] (k0_pay5 (F := F) (k0_pay1 X) (idw X ⟨p.toNat, hlt⟩)) inpos_S1x1x1_p0_0_0
        = nextw X (idw X ⟨p.toNat, hlt⟩) := rfl
      rw [hn]
      generalize nextw X (idw X ⟨p.toNat, hlt⟩) = p' at hp' hgt ⊢
      iapply (wp_call_spec 𝒱₀ (c : Thread nD τ) (some (k + 1)) E
        (spec c arg1 v34 arg8 X k p' (trip X v34 (idw X ⟨p.toNat, hlt⟩) hc2 A)) k
        (fun u hu => by cases hu; exact Nat.lt_succ_self k)
        (ih p' hp' (by omega) (trip X v34 (idw X ⟨p.toNat, hlt⟩) hc2 A)))
      rw [spec_apply]; unfold held
      isplitl [H1 H8]
      · isplitl [H1]; · iexact H1
        iexact H8
      iintro %r ⟨H1, H8⟩
      rw [wp_ret]; imodintro
      iapply Hk
      isplitl [H1]; · iexact H1
      iexact H8
    · have ht : ¬ Scalar.cmpi .slt p 2048#32 = 1#1 := by rw [test_iff p hp]; exact hlt
      simp only [ht, ↓reduceIte, Prog.pure_eq_ret]
      rw [loopRes_done X v34 (k + 1) p A hlt]
      iintro ⟨H, Hk⟩
      rw [wp_ret]; imodintro
      iapply Hk
      iexact H

end Label

end Cert.KernelIdeal.Seg
-- ==== Proof.KI.Body0.lean ====
/-
  The first kernel's body on staging buffers at known contents: the sums are cleared at the first point, the
  block's features computed, and the loop run on them.
-/
module

public import proofs.«01_k».proof.Proof.KI.Loop

@[expose] public section

noncomputable section

namespace Cert.KernelIdeal.Seg

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words Cert.OwnRules Cert.KernelIdeal Cert.KernelIdeal.Gen

variable {F : FTy → Type} [FloatOps F]

local notation "𝕄" => MT nD τ sig Unit (Elt F) ℕ (UR nD τ) ℕ

/-- The body's test for the first grid point. -/
theorem first_iff (i : grid0.Coords) :
    Scalar.cmpi .ne (Scalar.extui (Scalar.cmpi .eq (BitVec.ofNat 32 (i 0).val) 0#32)) 0#32 = 1#1 ↔ (i 0).val = 0 := by
  have hi : (i 0).val < 79 := (i 0).isLt
  generalize (i 0).val = n at hi ⊢
  revert n
  decide +kernel

theorem zero2 : ∀ a : Fin 2, (![0, 0] : Fin 2 → ℕ) a = 0 := by decide
theorem zero3 : ∀ a : Fin 3, (![0, 0, 0] : Fin 3 → ℕ) a = 0 := by decide

/-- The sums after the body: the loop's result from the sums before it, or from zero at the first point. -/
def bodyOut (i : grid0.Coords) (X : Vec F S1x1x2048 .i32) (x : Vec F S2048x256 .f32) (w0 : Vec F S256x512 .bf16) (b0 : Vec F S1x512 .f32)
    (w1 : Vec F S512x512 .bf16) (b1 : Vec F S1x512 .f32) (A : Vec F S10496x512 .f32) : Vec F S10496x512 .f32 :=
  loopRes X (k0_pay3 i x w0 b0 w1 b1) 2048 0#32 (if (i 0).val = 0 then k0_pay2 else A)

variable (c : Dev nD) (i : grid0.Coords) (arg1 : Memref sig .tc .smem S1x1x2048 .i32) (harg1 : arg1.IsWhole)
  (arg2 : Memref sig .tc .vmem S2048x256 .f32) (harg2 : arg2.IsWhole) (arg3 : Memref sig .tc .vmem S1x1x2048 .i32) (harg3 : arg3.IsWhole)
  (arg4 : Memref sig .tc .vmem S256x512 .bf16) (harg4 : arg4.IsWhole) (arg5 : Memref sig .tc .vmem S1x512 .f32) (harg5 : arg5.IsWhole)
  (arg6 : Memref sig .tc .vmem S512x512 .bf16) (harg6 : arg6.IsWhole) (arg7 : Memref sig .tc .vmem S1x512 .f32) (harg7 : arg7.IsWhole)
  (arg8 : Memref sig .tc .vmem S10496x512 .f32) (harg8 : arg8.IsWhole)

theorem body0 {X : Vec F S1x1x2048 .i32} (hX : Good X) (x : Vec F S2048x256 .f32) (w0 : Vec F S256x512 .bf16) (b0 : Vec F S1x512 .f32)
    (w1 : Vec F S512x512 .bf16) (b1 : Vec F S1x512 .f32) (A : Vec F S10496x512 .f32) (K : PUnit → sProp 𝕄) :
    iprop((owns (c : Thread nD τ) arg1 fullShare X ∗ owns (c : Thread nD τ) arg2 fullShare x ∗ owns (c : Thread nD τ) arg3 fullShare X
        ∗ owns (c : Thread nD τ) arg4 fullShare w0 ∗ owns (c : Thread nD τ) arg5 fullShare b0 ∗ owns (c : Thread nD τ) arg6 fullShare w1
        ∗ owns (c : Thread nD τ) arg7 fullShare b1 ∗ owns (c : Thread nD τ) arg8 fullShare A)
      ∗ (iprop(owns (c : Thread nD τ) arg1 fullShare X ∗ owns (c : Thread nD τ) arg2 fullShare x ∗ owns (c : Thread nD τ) arg3 fullShare X
        ∗ owns (c : Thread nD τ) arg4 fullShare w0 ∗ owns (c : Thread nD τ) arg5 fullShare b0 ∗ owns (c : Thread nD τ) arg6 fullShare w1
        ∗ owns (c : Thread nD τ) arg7 fullShare b1 ∗ owns (c : Thread nD τ) arg8 fullShare (bodyOut i X x w0 b0 w1 b1 A)) -∗ K ⟨⟩))
      ⊢ wp frame (wpE (defs₀ (F := F)) 𝒱₀ (c : Thread nD τ) none) Set.univ
          (cc0__phi_seg_body i arg1 harg1 arg2 harg2 arg3 harg3 arg4 harg4 arg5 harg5 arg6 harg6 arg7 harg7 arg8 harg8) K := by
  simp only [cc0__phi_seg_body_eq_skeleton]; unfold cc0__phi_seg_body_skel
  simp only [k0_part1_eq_skeleton]; unfold k0_part1_skel
  unfold bodyOut
  by_cases h0 : (i 0).val = 0
  · have hc := (first_iff i).2 h0
    simp only [hc, h0, ↓reduceIte, ↓reduceDIte, Prog.lift, Prog.bind_op, Prog.bind_ret, Prog.pure_eq_ret]
    iintro ⟨⟨H1, H2, H3, H4, H5, H6, H7, H8⟩, Hk⟩
    iapply (own_load_full 𝒱₀ (c : Thread nD τ) none Set.univ arg8 ![0, 0] zero2 _) $$ H8; iintro H8
    iapply (own_store_full 𝒱₀ (c : Thread nD τ) none Set.univ arg8 ![0, 0] zero2 _) $$ H8; iintro H8
    iapply (own_load_full 𝒱₀ (c : Thread nD τ) none Set.univ arg2 ![0, 0] zero2 _) $$ H2; iintro H2
    iapply (own_load_full 𝒱₀ (c : Thread nD τ) none Set.univ arg4 ![0, 0] zero2 _) $$ H4; iintro H4
    iapply (own_load_full 𝒱₀ (c : Thread nD τ) none Set.univ arg5 ![0, 0] zero2 _) $$ H5; iintro H5
    iapply (own_load_full 𝒱₀ (c : Thread nD τ) none Set.univ arg6 ![0, 0] zero2 _) $$ H6; iintro H6
    iapply (own_load_full 𝒱₀ (c : Thread nD τ) none Set.univ arg7 ![0, 0] zero2 _) $$ H7; iintro H7
    iapply (own_load_full 𝒱₀ (c : Thread nD τ) none Set.univ arg3 ![0, 0, 0] zero3 _) $$ H3; iintro H3
    iapply (wp_call_spec 𝒱₀ (c : Thread nD τ) none Set.univ
      (spec c arg1 (k0_pay3 i x w0 b0 w1 b1) arg8 X 2048 0#32 k0_pay2) 2048 (fun u hu => nomatch hu)
      (spec_le c i arg1 harg1 (k0_pay3 i x w0 b0 w1 b1) arg8 harg8 hX Set.univ 2048 0#32 (by decide) (by decide) k0_pay2))
    rw [spec_apply]; unfold held
    isplitl [H1 H8]
    · isplitl [H1]; · iexact H1
      iexact H8
    iintro %r ⟨H1, H8⟩
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc : ¬ _ := fun h => h0 ((first_iff i).1 h)
    simp only [hc, h0, ↓reduceIte, ↓reduceDIte, Prog.lift, Prog.bind_op, Prog.bind_ret, Prog.pure_eq_ret]
    iintro ⟨⟨H1, H2, H3, H4, H5, H6, H7, H8⟩, Hk⟩
    iapply (own_load_full 𝒱₀ (c : Thread nD τ) none Set.univ arg2 ![0, 0] zero2 _) $$ H2; iintro H2
    iapply (own_load_full 𝒱₀ (c : Thread nD τ) none Set.univ arg4 ![0, 0] zero2 _) $$ H4; iintro H4
    iapply (own_load_full 𝒱₀ (c : Thread nD τ) none Set.univ arg5 ![0, 0] zero2 _) $$ H5; iintro H5
    iapply (own_load_full 𝒱₀ (c : Thread nD τ) none Set.univ arg6 ![0, 0] zero2 _) $$ H6; iintro H6
    iapply (own_load_full 𝒱₀ (c : Thread nD τ) none Set.univ arg7 ![0, 0] zero2 _) $$ H7; iintro H7
    iapply (own_load_full 𝒱₀ (c : Thread nD τ) none Set.univ arg3 ![0, 0, 0] zero3 _) $$ H3; iintro H3
    iapply (wp_call_spec 𝒱₀ (c : Thread nD τ) none Set.univ
      (spec c arg1 (k0_pay3 i x w0 b0 w1 b1) arg8 X 2048 0#32 A) 2048 (fun u hu => nomatch hu)
      (spec_le c i arg1 harg1 (k0_pay3 i x w0 b0 w1 b1) arg8 harg8 hX Set.univ 2048 0#32 (by decide) (by decide) A))
    rw [spec_apply]; unfold held
    isplitl [H1 H8]
    · isplitl [H1]; · iexact H1
      iexact H8
    iintro %r ⟨H1, H8⟩
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Seg
-- ==== Proof.KI.Feat.lean ====
/-
  The block's features read the rows of `x` inside the array only: a row past the array's end is masked to zero
  before anything else is done with it.
-/
module

public import proofs.«01_k».proof.Proof.KI.Body0

@[expose] public section

noncomputable section

namespace Cert.KernelIdeal.Seg

open Idealize.ShloMosaic Idealize.ShloMosaic.TcCoe Idealize.ShloMosaic.Tactic Idealize.ShloMosaic.ValueIdx
open Pipeline
open Cert.Words Cert.KernelIdeal Cert.KernelIdeal.Gen

variable {F : FTy → Type} [FloatOps F]

/-- The mask's words: row `r` of block `n` is below 160000. -/
theorem mask_word (n r : ℕ) (hn : n < 79) (hr : r < 2048) :
    Scalar.cmpi .slt (IntOp.addi (BitVec.ofNat 32 r) (Scalar.muli (BitVec.ofNat 32 n) 2048#32)) 160000#32
      = BitVec.ofBool (decide (n * 2048 + r < 160000)) := by
  have e : (IntOp.addi (BitVec.ofNat 32 r) (Scalar.muli (BitVec.ofNat 32 n) 2048#32)).toNat = n * 2048 + r := by
    show (BitVec.ofNat 32 r + BitVec.ofNat 32 n * 2048#32).toNat = _
    rw [BitVec.toNat_add, BitVec.toNat_mul, BitVec.toNat_ofNat, BitVec.toNat_ofNat, BitVec.toNat_ofNat]
    omega
  show BitVec.ofBool (BitVec.slt _ _) = _
  rw [slt_iff_toNat _ _ (by rw [e]; omega) (by decide), e]
  rfl

/-- The masked rows of `x`. -/
def maskRows (i : grid0.Coords) (x : Vec F S2048x256 .f32) : Vec F S2048x256 .f32 := fun j =>
  if (i 0).val * 2048 + (j 0).val < 160000 then x j else Scalar.ofBits .f32 0x00000000#32

/-- The mask of block `i`, as the kernel builds it. -/
def maskOf (i : grid0.Coords) : IVec S2048x256 1 :=
  broadcastTo S2048x256 (shapeCast S2048x1 (cmpi .slt (addi (iota .tc S2048x1 32 [0] iota_S2048x1_d0_w32)
    (broadcast S2048x1 (Scalar.muli (BitVec.ofNat 32 (i 0).val) 2048#32))) (broadcast S2048x1 160000#32))
    shapeCasts_S2048x1_S2048x1) broadcasts_S2048x1_S2048x256

theorem maskOf_apply (i : grid0.Coords) (j : S2048x256.Idx) :
    maskOf i j = BitVec.ofBool (decide ((i 0).val * 2048 + (j 0).val < 160000)) := by
  unfold maskOf
  have hj : (j 0).val < 2048 := (j 0).isLt
  refine (broadcastTo_apply (s := S2048x1) (t := S2048x256) _ _ j (ix2 (j 0) 0) (by intro a; fin_cases a <;> rfl)).trans ?_
  refine (shapeCast_apply (s := S2048x1) (t := S2048x1) _ _ _ (ix2 (j 0) 0) rfl).trans ?_
  rw [← mask_word (i 0).val (j 0).val (i 0).isLt hj]
  show Scalar.cmpi .slt (IntOp.addi (iota .tc S2048x1 32 [0] iota_S2048x1_d0_w32 _) _) _ = _
  rw [iota_single_apply]
  rfl

theorem select_mask (i : grid0.Coords) (x : Vec F S2048x256 .f32) :
    select (maskOf i) x (broadcast S2048x256 (Scalar.ofBits .f32 0x00000000#32 : F .f32)) = maskRows i x := by
  funext j
  show (if maskOf i j = 1#1 then x j else _) = _
  rw [maskOf_apply]
  unfold maskRows
  by_cases h : (i 0).val * 2048 + (j 0).val < 160000
  · rw [if_pos h, if_pos (by rw [decide_eq_true h]; rfl)]
  · rw [if_neg h, if_neg (by rw [decide_eq_false h]; decide)]; rfl

theorem pay3_congr (i : grid0.Coords) {x x' : Vec F S2048x256 .f32} (h : maskRows i x = maskRows i x') (w0 : Vec F S256x512 .bf16)
    (b0 : Vec F S1x512 .f32) (w1 : Vec F S512x512 .bf16) (b1 : Vec F S1x512 .f32) :
    k0_pay3 i x w0 b0 w1 b1 = k0_pay3 i x' w0 b0 w1 b1 := by
  have hs := (select_mask i x).trans (h.trans (select_mask i x').symm)
  unfold maskOf at hs
  unfold k0_pay3
  dsimp only
  rw [hs]

end Cert.KernelIdeal.Seg
-- ==== Proof.KI.Region0.lean ====
/-
  The first region: the proof data of its pipeline from the buffers' contents at entry, the body at every grid
  point, and the region as a segment of the program.
-/
module

public import proofs.«01_k».proof.Proof.KI.Feat
public import proofs.«01_k».proof.Proof.Gen.KernelIdeal.Regions
public import proofs.«01_k».proof.Proof.Gen.KernelIdeal.Points
public import Idealize.ShloMosaic.Lib.Pipeline.FrameBody
public import Idealize.ShloMosaic.Lib.Pipeline.RegionsLoop

@[expose] public section

noncomputable section

namespace Cert.KernelIdeal.Seg

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.Words Cert.OwnRules Cert.KernelIdeal Cert.KernelIdeal.Gen

variable {F : FTy → Type} [FloatOps F]

local notation "𝕄" => MT nD τ sig Unit (Elt F) ℕ (UR nD τ) ℕ

/-- A grid point's coordinate is its number. -/
theorem coord0 (t : Fin grid0.N) : (grid0.coords t 0).val = t.val := by
  rw [Pipeline.Grid.coords_val t 0 (S := 1) (B := 79) (by decide) rfl]
  have h : t.val < 79 := lt_of_lt_of_eq t.isLt N_0
  omega

theorem word_coord (t : Fin grid0.N) : (BitVec.ofNat 32 (grid0.coords t 0).val).toNat = t.val := by
  have h : t.val < 79 := lt_of_lt_of_eq t.isLt N_0
  rw [coord0, BitVec.toNat_ofNat]
  omega

variable (V : (c : Dev nD) → (b : Ref sig .tc) → Buf (Elt F) ((c : Thread nD τ).loc b))

/-- The block of each array at a point, as the fetch stages it. -/
abbrev idB (c : Dev nD) (t : Fin grid0.N) : Vec F S1x1x2048 .i32 := (win0_0.blk t).view.read (Elt F) (V c main_v2)
abbrev idB' (c : Dev nD) (t : Fin grid0.N) : Vec F S1x1x2048 .i32 := (win0_2.blk t).view.read (Elt F) (V c main_v2)
abbrev w0B (c : Dev nD) (t : Fin grid0.N) : Vec F S256x512 .bf16 := (win0_3.blk t).view.read (Elt F) (V c main_v3)
abbrev b0B (c : Dev nD) (t : Fin grid0.N) : Vec F S1x512 .f32 := (win0_4.blk t).view.read (Elt F) (V c main_v4)
abbrev w1B (c : Dev nD) (t : Fin grid0.N) : Vec F S512x512 .bf16 := (win0_5.blk t).view.read (Elt F) (V c main_v5)
abbrev b1B (c : Dev nD) (t : Fin grid0.N) : Vec F S1x512 .f32 := (win0_6.blk t).view.read (Elt F) (V c main_v6)
/-- The block of `x`, its part inside the array. -/
abbrev xBlk (c : Dev nD) (t : Fin grid0.N) := (win0_1.blk t).view.read (Elt F) (V c main_arg0)
/-- The block of `x` over any rest of the staging buffer. -/
abbrev xOn (c : Dev nD) (t : Fin grid0.N) (d : Vec F S2048x256 .f32) : Vec F S2048x256 .f32 := win0_1.fill (grid0.coords t) d (xBlk V c t)
abbrev zeroX : Vec F S2048x256 .f32 := fun _ => Scalar.ofBits .f32 0#32

/-- The running sums before point `n`. -/
def acc (c : Dev nD) : ℕ → Vec F S10496x512 .f32
  | 0 => k0_pay2
  | n + 1 => if h : n < grid0.N then
      bodyOut (grid0.coords ⟨n, h⟩) (idB V c ⟨n, h⟩) (xOn V c ⟨n, h⟩ zeroX) (w0B V c ⟨n, h⟩) (b0B V c ⟨n, h⟩) (w1B V c ⟨n, h⟩) (b1B V c ⟨n, h⟩) (acc c n)
    else acc c n

theorem acc_succ (c : Dev nD) (t : Fin grid0.N) :
    acc V c (t.val + 1) = bodyOut (grid0.coords t) (idB V c t) (xOn V c t zeroX) (w0B V c t) (b0B V c t) (w1B V c t) (b1B V c t) (acc V c t.val) := by
  conv_lhs => unfold acc
  rw [dif_pos t.isLt]

/-- The proof data of the region entered at `V`. -/
def dat0 (c : Dev nD) : Dat τ (Elt F) Unit ℕ (UR nD τ) ℕ (cfg0 (F := F)) c where
  A w := V c (Pipeline.arrRef spec0 w)
  after w t := match w with
    | ⟨0, _⟩ => idB V c t
    | ⟨1, _⟩ => xOn V c t zeroX
    | ⟨2, _⟩ => idB' V c t
    | ⟨3, _⟩ => w0B V c t
    | ⟨4, _⟩ => b0B V c t
    | ⟨5, _⟩ => w1B V c t
    | ⟨6, _⟩ => b1B V c t
    | ⟨7, _⟩ => acc V c (t.val + 1)
  Φ _ := Pipeline.scopedRest (Ix := Unit) (Name := ℕ) (U := UR nD τ) (Lvl := ℕ) (Val := Elt F) spec0 c
  q := Pipeline.shareOf spec0
  owed _ := 0

theorem before0_0 (c : Dev nD) (t : Fin grid0.N) (d) : (dat0 V c).before 0 t d = idB V c t := by
  unfold Dat.before; rw [if_pos (fetch0_0 t)]; rfl
theorem before0_1 (c : Dev nD) (t : Fin grid0.N) (d) : (dat0 V c).before 1 t d = xOn V c t d := by
  unfold Dat.before; rw [if_pos (fetch0_1 t)]; rfl
theorem before0_2 (c : Dev nD) (t : Fin grid0.N) (d) : (dat0 V c).before 2 t d = idB' V c t := by
  unfold Dat.before; rw [if_pos (fetch0_2 t)]; rfl
theorem before0_3 (c : Dev nD) (t : Fin grid0.N) (d) : (dat0 V c).before 3 t d = w0B V c t :=
  (dat0 V c).before_in_eq_fetched 3 rfl (fun _ => rfl) (fun _ _ _ => rfl) (fun _ => rfl) t d
theorem before0_4 (c : Dev nD) (t : Fin grid0.N) (d) : (dat0 V c).before 4 t d = b0B V c t :=
  (dat0 V c).before_in_eq_fetched 4 rfl (fun _ => rfl) (fun _ _ _ => rfl) (fun _ => rfl) t d
theorem before0_5 (c : Dev nD) (t : Fin grid0.N) (d) : (dat0 V c).before 5 t d = w1B V c t :=
  (dat0 V c).before_in_eq_fetched 5 rfl (fun _ => rfl) (fun _ _ _ => rfl) (fun _ => rfl) t d
theorem before0_6 (c : Dev nD) (t : Fin grid0.N) (d) : (dat0 V c).before 6 t d = b1B V c t :=
  (dat0 V c).before_in_eq_fetched 6 rfl (fun _ => rfl) (fun _ _ _ => rfl) (fun _ => rfl) t d

theorem before0_7 (c : Dev nD) (t : Fin grid0.N) (ht : t.val ≠ 0) (d) : (dat0 V c).before 7 t d = acc V c t.val := by
  have h79 : t.val < 79 := lt_of_lt_of_eq t.isLt N_0
  rw [(dat0 V c).before_out_kept 7 rfl t ht (by
    rw [Bool.eq_false_iff]; intro h
    have := (flush0_7 _).1 h
    simp only at this
    omega) (fun _ => rfl) (fun _ _ => rfl) d]
  show acc V c (t.val - 1 + 1) = _
  congr 1; omega

theorem idB_same (c : Dev nD) (t : Fin grid0.N) : idB' V c t = idB V c t := rfl

/-- A row of the block that lies among the chunks is in the array. -/
theorem moved0 (t : Fin grid0.N) (j : S2048x256.Idx) (h : t.val * 2048 + (j 0).val < 160000) : win0_1.moved (grid0.coords t) j = true := by
  rw [Pipeline.Window.moved_iff]
  intro a
  have ht : t.val < 79 := lt_of_lt_of_eq t.isLt N_0
  have h0 : (j 0).val < 2048 := (j 0).isLt
  have h1 : (j 1).val < 256 := (j 1).isLt
  fin_cases a
  · show (j 0).val < (Pipeline.Clip.of ((cc0_transform_1 (grid0.coords t)) 0) 2048 160000).extent 2048
    have e : (cc0_transform_1 (grid0.coords t)) 0 = t.val := word_coord t
    rw [e]
    unfold Pipeline.Clip.of
    split
    · exact h0
    · show (j 0).val < 160000 - t.val * 2048
      omega
  · show (j 1).val < (Pipeline.Clip.of ((cc0_transform_1 (grid0.coords t)) 1) 256 256).extent 256
    have e : (cc0_transform_1 (grid0.coords t)) 1 = 0 := rfl
    rw [e]
    exact h1

/-- Two stagings of one block of `x` have the same masked rows. -/
theorem mask_xOn (c : Dev nD) (t : Fin grid0.N) (d d' : Vec F S2048x256 .f32) :
    maskRows (grid0.coords t) (xOn V c t d) = maskRows (grid0.coords t) (xOn V c t d') := by
  funext j
  unfold maskRows
  split
  · next h =>
    rw [coord0] at h
    have hm := moved0 t j h
    unfold xOn Pipeline.Window.fill
    rw [dif_pos hm, dif_pos hm]
  · rfl

theorem bodyOut_first (i : grid0.Coords) (h : (i 0).val = 0) (X : Vec F S1x1x2048 .i32) (x : Vec F S2048x256 .f32) (w0 : Vec F S256x512 .bf16)
    (b0 : Vec F S1x512 .f32) (w1 : Vec F S512x512 .bf16) (b1 : Vec F S1x512 .f32) (A A' : Vec F S10496x512 .f32) :
    bodyOut i X x w0 b0 w1 b1 A = bodyOut i X x w0 b0 w1 b1 A' := by
  unfold bodyOut; rw [if_pos h, if_pos h]

theorem bodyOut_congr (i : grid0.Coords) (X : Vec F S1x1x2048 .i32) {x x' : Vec F S2048x256 .f32} (h : maskRows i x = maskRows i x') (w0 : Vec F S256x512 .bf16)
    (b0 : Vec F S1x512 .f32) (w1 : Vec F S512x512 .bf16) (b1 : Vec F S1x512 .f32) (A : Vec F S10496x512 .f32) :
    bodyOut i X x w0 b0 w1 b1 A = bodyOut i X x' w0 b0 w1 b1 A := by
  unfold bodyOut; rw [pay3_congr i h]

/-- What the body leaves in the sums' buffer at a point. -/
theorem out_eq (c : Dev nD) (t : Fin grid0.N) (d : Vec F S2048x256 .f32) (d7 : Vec F S10496x512 .f32) :
    bodyOut (grid0.coords t) (idB V c t) (xOn V c t d) (w0B V c t) (b0B V c t) (w1B V c t) (b1B V c t) ((dat0 V c).before 7 t d7) = acc V c (t.val + 1) := by
  rw [acc_succ]
  refine (bodyOut_congr (grid0.coords t) (idB V c t) (mask_xOn V c t d zeroX) (w0B V c t) (b0B V c t) (w1B V c t) (b1B V c t) _).trans ?_
  by_cases ht : t.val = 0
  · exact bodyOut_first (grid0.coords t) ((coord0 t).trans ht) (idB V c t) (xOn V c t zeroX) (w0B V c t) (b0B V c t) (w1B V c t) (b1B V c t) _ _
  · exact congrArg (bodyOut (grid0.coords t) (idB V c t) (xOn V c t zeroX) (w0B V c t) (b0B V c t) (w1B V c t) (b1B V c t)) (before0_7 V c t ht d7)

/-- The body at every point. -/
theorem obligation0 (c : Dev nD) (hG : ∀ t, Good (idB V c t)) :
    BodyObligationLoose (dat0 V c) (defs₀ (F := F)) 𝒱₀ () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 V c t d0, before0_1 V c t d1, before0_2 V c t d2, before0_3 V c t d3, before0_4 V c t d4, before0_5 V c t d5, before0_6 V c t d6]
  iapply (body0 c (grid0.coords t) _ (hstage0_0 _) _ (hstage0_1 _) _ (hstage0_2 _) _ (hstage0_3 _) _ (hstage0_4 _) _ (hstage0_5 _) _ (hstage0_6 _) _ (hstage0_7 _)
    (hG t) (xOn V c t d1) (w0B V c t) (b0B V c t) (w1B V c t) (b1B V c t) ((dat0 V c).before 7 t d7) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [out_eq V c t d1 d7]
  iintro ⟨H0, H1, H2, H3, H4, H5, H6, H7⟩
  isplitl [HΦ]; · iexact HΦ
  isplitl [Ho]; · iexact Ho
  isplitl [H0]; · iexact H0
  isplitl [H1]
  · iexists d1
    have hx : win0_1.cut (grid0.coords t) (xOn V c t zeroX) = xBlk V c t := win0_1.cut_fill _ _ _
    change _ ⊢ owns (c : Thread nD τ) (stage0_1 ((cfg0 (F := F)).slots t 1)) fullShare (win0_1.fill (grid0.coords t) d1 (win0_1.cut (grid0.coords t) (xOn V c t zeroX)))
    rw [hx]
  isplitl [H2]; · iexact H2
  isplitl [H3]; · iexact H3
  isplitl [H4]; · iexact H4
  isplitl [H5]; · iexact H5
  isplitl [H6]; · iexact H6
  iexact H7

end Cert.KernelIdeal.Seg
-- ==== Proof.KI.Region1.lean ====
/-
  The second region: the block map of its kernel at every grid point, on the buffers' contents at entry.
-/
module

public import proofs.«01_k».proof.Proof.KI.Region0

@[expose] public section

noncomputable section

namespace Cert.KernelIdeal.Seg

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.Words Cert.OwnRules Cert.KernelIdeal Cert.KernelIdeal.Gen

variable {F : FTy → Type} [FloatOps F]

local notation "𝕄" => MT nD τ sig Unit (Elt F) ℕ (UR nD τ) ℕ

theorem coord1 (t : Fin grid1.N) : (grid1.coords t 0).val = t.val := by
  rw [Pipeline.Grid.coords_val t 0 (S := 1) (B := 10) (by decide) rfl]
  have h : t.val < 10 := lt_of_lt_of_eq t.isLt N_1
  omega

theorem word_coord1 (t : Fin grid1.N) : (BitVec.ofNat 32 (grid1.coords t 0).val).toNat = t.val := by
  have h : t.val < 10 := lt_of_lt_of_eq t.isLt N_1
  rw [coord1, BitVec.toNat_ofNat]
  omega

section Body

variable (c : Dev nD) (i : grid1.Coords) (arg1 : Memref sig .tc .vmem S1000x512 .f32) (harg1 : arg1.IsWhole)
  (arg2 : Memref sig .tc .vmem S512x512 .bf16) (harg2 : arg2.IsWhole) (arg3 : Memref sig .tc .vmem S1x512 .f32) (harg3 : arg3.IsWhole)
  (arg4 : Memref sig .tc .vmem S512x512 .bf16) (harg4 : arg4.IsWhole) (arg5 : Memref sig .tc .vmem S1x512 .f32) (harg5 : arg5.IsWhole)
  (arg6 : Memref sig .tc .vmem S512x256 .bf16) (harg6 : arg6.IsWhole) (arg7 : Memref sig .tc .vmem S1x256 .f32) (harg7 : arg7.IsWhole)
  (arg8 : Memref sig .tc .vmem S1000x256 .f32) (harg8 : arg8.IsWhole)

/-- The second kernel's body on staging buffers at known contents. -/
theorem body1 (a : Vec F S1000x512 .f32) (w0 : Vec F S512x512 .bf16) (b0 : Vec F S1x512 .f32) (w1 : Vec F S512x512 .bf16) (b1 : Vec F S1x512 .f32)
    (w2 : Vec F S512x256 .bf16) (b2 : Vec F S1x256 .f32) (o : Vec F S1000x256 .f32) (K : PUnit → sProp 𝕄) :
    iprop((owns (c : Thread nD τ) arg1 fullShare a ∗ owns (c : Thread nD τ) arg2 fullShare w0 ∗ owns (c : Thread nD τ) arg3 fullShare b0
        ∗ owns (c : Thread nD τ) arg4 fullShare w1 ∗ owns (c : Thread nD τ) arg5 fullShare b1 ∗ owns (c : Thread nD τ) arg6 fullShare w2
        ∗ owns (c : Thread nD τ) arg7 fullShare b2 ∗ owns (c : Thread nD τ) arg8 fullShare o)
      ∗ (iprop(owns (c : Thread nD τ) arg1 fullShare a ∗ owns (c : Thread nD τ) arg2 fullShare w0 ∗ owns (c : Thread nD τ) arg3 fullShare b0
        ∗ owns (c : Thread nD τ) arg4 fullShare w1 ∗ owns (c : Thread nD τ) arg5 fullShare b1 ∗ owns (c : Thread nD τ) arg6 fullShare w2
        ∗ owns (c : Thread nD τ) arg7 fullShare b2 ∗ owns (c : Thread nD τ) arg8 fullShare (k1_pay1 a w0 b0 w1 b1 w2 b2)) -∗ K ⟨⟩))
      ⊢ wp frame (wpE (defs₀ (F := F)) 𝒱₀ (c : Thread nD τ) none) Set.univ
          (cc1__rho_body i arg1 harg1 arg2 harg2 arg3 harg3 arg4 harg4 arg5 harg5 arg6 harg6 arg7 harg7 arg8 harg8) K := by
  simp only [cc1__rho_body_eq_skeleton]; unfold cc1__rho_body_skel
  simp only [Prog.lift, Prog.bind_op, Prog.bind_ret, Prog.pure_eq_ret]
  iintro ⟨⟨H1, H2, H3, H4, H5, H6, H7, H8⟩, Hk⟩
  iapply (own_load_full 𝒱₀ (c : Thread nD τ) none Set.univ arg1 ![0, 0] zero2 _) $$ H1; iintro H1
  iapply (own_load_full 𝒱₀ (c : Thread nD τ) none Set.univ arg2 ![0, 0] zero2 _) $$ H2; iintro H2
  iapply (own_load_full 𝒱₀ (c : Thread nD τ) none Set.univ arg3 ![0, 0] zero2 _) $$ H3; iintro H3
  iapply (own_load_full 𝒱₀ (c : Thread nD τ) none Set.univ arg4 ![0, 0] zero2 _) $$ H4; iintro H4
  iapply (own_load_full 𝒱₀ (c : Thread nD τ) none Set.univ arg5 ![0, 0] zero2 _) $$ H5; iintro H5
  iapply (own_load_full 𝒱₀ (c : Thread nD τ) none Set.univ arg6 ![0, 0] zero2 _) $$ H6; iintro H6
  iapply (own_load_full 𝒱₀ (c : Thread nD τ) none Set.univ arg7 ![0, 0] zero2 _) $$ H7; iintro H7
  iapply (own_load_full 𝒱₀ (c : Thread nD τ) none Set.univ arg8 ![0, 0] zero2 _) $$ H8; iintro H8
  iapply (own_store_full 𝒱₀ (c : Thread nD τ) none Set.univ arg8 ![0, 0] zero2 _) $$ H8; iintro H8
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Body

variable (V : (c : Dev nD) → (b : Ref sig .tc) → Buf (Elt F) ((c : Thread nD τ).loc b))

abbrev aBlk (c : Dev nD) (t : Fin grid1.N) := (win1_0.blk t).view.read (Elt F) (V c main_v7)
/-- The block of the sums as staged: it lies inside the array, so all of the buffer is filled. -/
abbrev aOn (c : Dev nD) (t : Fin grid1.N) (d : Vec F S1000x512 .f32) : Vec F S1000x512 .f32 := win1_0.fill (grid1.coords t) d (aBlk V c t)
abbrev zeroA : Vec F S1000x512 .f32 := fun _ => Scalar.ofBits .f32 0#32
abbrev r0B (c : Dev nD) (t : Fin grid1.N) : Vec F S512x512 .bf16 := (win1_1.blk t).view.read (Elt F) (V c main_v8)
abbrev s0B (c : Dev nD) (t : Fin grid1.N) : Vec F S1x512 .f32 := (win1_2.blk t).view.read (Elt F) (V c main_v9)
abbrev r1B (c : Dev nD) (t : Fin grid1.N) : Vec F S512x512 .bf16 := (win1_3.blk t).view.read (Elt F) (V c main_v10)
abbrev s1B (c : Dev nD) (t : Fin grid1.N) : Vec F S1x512 .f32 := (win1_4.blk t).view.read (Elt F) (V c main_v11)
abbrev r2B (c : Dev nD) (t : Fin grid1.N) : Vec F S512x256 .bf16 := (win1_5.blk t).view.read (Elt F) (V c main_v12)
abbrev s2B (c : Dev nD) (t : Fin grid1.N) : Vec F S1x256 .f32 := (win1_6.blk t).view.read (Elt F) (V c main_v13)

/-- The result's block at a point. -/
def outB (c : Dev nD) (t : Fin grid1.N) : Vec F S1000x256 .f32 :=
  k1_pay1 (aOn V c t zeroA) (r0B V c t) (s0B V c t) (r1B V c t) (s1B V c t) (r2B V c t) (s2B V c t)

theorem moved1 (t : Fin grid1.N) (j : S1000x512.Idx) : win1_0.moved (grid1.coords t) j = true := by
  rw [Pipeline.Window.moved_iff]
  intro a
  have ht : t.val < 10 := lt_of_lt_of_eq t.isLt N_1
  have h0 : (j 0).val < 1000 := (j 0).isLt
  have h1 : (j 1).val < 512 := (j 1).isLt
  fin_cases a
  · show (j 0).val < (Pipeline.Clip.of ((cc1_transform_0 (grid1.coords t)) 0) 1000 10496).extent 1000
    have e : (cc1_transform_0 (grid1.coords t)) 0 = t.val := word_coord1 t
    rw [e]; unfold Pipeline.Clip.of; rw [if_pos (by omega)]
    exact h0
  · show (j 1).val < (Pipeline.Clip.of ((cc1_transform_0 (grid1.coords t)) 1) 512 512).extent 512
    have e : (cc1_transform_0 (grid1.coords t)) 1 = 0 := rfl
    rw [e]
    exact h1

theorem aOn_same (c : Dev nD) (t : Fin grid1.N) (d d' : Vec F S1000x512 .f32) : aOn V c t d = aOn V c t d' := by
  funext j
  unfold aOn Pipeline.Window.fill
  rw [dif_pos (moved1 t j), dif_pos (moved1 t j)]

/-- The proof data of the region entered at `V`. -/
def dat1 (c : Dev nD) : Dat τ (Elt F) Unit ℕ (UR nD τ) ℕ (cfg1 (F := F)) c where
  A w := V c (Pipeline.arrRef spec1 w)
  after w t := match w with
    | ⟨0, _⟩ => aOn V c t zeroA
    | ⟨1, _⟩ => r0B V c t
    | ⟨2, _⟩ => s0B V c t
    | ⟨3, _⟩ => r1B V c t
    | ⟨4, _⟩ => s1B V c t
    | ⟨5, _⟩ => r2B V c t
    | ⟨6, _⟩ => s2B V c t
    | ⟨7, _⟩ => outB V c t
  Φ _ := Pipeline.scopedRest (Ix := Unit) (Name := ℕ) (U := UR nD τ) (Lvl := ℕ) (Val := Elt F) spec1 c
  q _ := fullShare
  owed _ := 0

theorem before1_0 (c : Dev nD) (t : Fin grid1.N) (d) : (dat1 V c).before 0 t d = aOn V c t d := by
  unfold Dat.before; rw [if_pos (fetch1_0 t)]; rfl
theorem before1_1 (c : Dev nD) (t : Fin grid1.N) (d) : (dat1 V c).before 1 t d = r0B V c t :=
  (dat1 V c).before_in_eq_fetched 1 rfl (fun _ => rfl) (fun _ _ _ => rfl) (fun _ => rfl) t d
theorem before1_2 (c : Dev nD) (t : Fin grid1.N) (d) : (dat1 V c).before 2 t d = s0B V c t :=
  (dat1 V c).before_in_eq_fetched 2 rfl (fun _ => rfl) (fun _ _ _ => rfl) (fun _ => rfl) t d
theorem before1_3 (c : Dev nD) (t : Fin grid1.N) (d) : (dat1 V c).before 3 t d = r1B V c t :=
  (dat1 V c).before_in_eq_fetched 3 rfl (fun _ => rfl) (fun _ _ _ => rfl) (fun _ => rfl) t d
theorem before1_4 (c : Dev nD) (t : Fin grid1.N) (d) : (dat1 V c).before 4 t d = s1B V c t :=
  (dat1 V c).before_in_eq_fetched 4 rfl (fun _ => rfl) (fun _ _ _ => rfl) (fun _ => rfl) t d
theorem before1_5 (c : Dev nD) (t : Fin grid1.N) (d) : (dat1 V c).before 5 t d = r2B V c t :=
  (dat1 V c).before_in_eq_fetched 5 rfl (fun _ => rfl) (fun _ _ _ => rfl) (fun _ => rfl) t d
theorem before1_6 (c : Dev nD) (t : Fin grid1.N) (d) : (dat1 V c).before 6 t d = s2B V c t :=
  (dat1 V c).before_in_eq_fetched 6 rfl (fun _ => rfl) (fun _ _ _ => rfl) (fun _ => rfl) t d

/-- The body at every point. -/
theorem obligation1 (c : Dev nD) :
    BodyObligationLoose (dat1 V c) (defs₀ (F := F)) 𝒱₀ () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before1_0 V c t d0, before1_1 V c t d1, before1_2 V c t d2, before1_3 V c t d3, before1_4 V c t d4, before1_5 V c t d5, before1_6 V c t d6]
  rw [aOn_same V c t d0 zeroA]
  iapply (body1 c (grid1.coords t) _ (hstage1_0 _) _ (hstage1_1 _) _ (hstage1_2 _) _ (hstage1_3 _) _ (hstage1_4 _) _ (hstage1_5 _) _ (hstage1_6 _) _ (hstage1_7 _)
    (aOn V c t zeroA) (r0B V c t) (s0B V c t) (r1B V c t) (s1B V c t) (r2B V c t) (s2B V c t) ((dat1 V c).before 7 t d7) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]
  · iexists (aOn V c t zeroA)
    have hx : win1_0.fill (grid1.coords t) (aOn V c t zeroA) (win1_0.cut (grid1.coords t) (aOn V c t zeroA)) = aOn V c t zeroA := win1_0.fill_cut _ _
    change _ ⊢ owns (c : Thread nD τ) (stage1_0 ((cfg1 (F := F)).slots t 0)) fullShare (win1_0.fill (grid1.coords t) (aOn V c t zeroA) (win1_0.cut (grid1.coords t) (aOn V c t zeroA)))
    rw [hx]
  isplitl [H1]; · iexact H1
  isplitl [H2]; · iexact H2
  isplitl [H3]; · iexact H3
  isplitl [H4]; · iexact H4
  isplitl [H5]; · iexact H5
  isplitl [H6]; · iexact H6
  iexact H7

end Cert.KernelIdeal.Seg
-- ==== Proof.KI.Launch.lean ====
/-
  The two regions as segments of the program and its run: the arguments keep their contents, and the result holds
  what the second region's write-backs leave.
-/
module

public import proofs.«01_k».proof.Proof.KI.Region1

@[expose] public section

noncomputable section

namespace Cert.KernelIdeal.Seg

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose RegionSeg)
open Cert.Words Cert.OwnRules Cert.KernelIdeal Cert.KernelIdeal.Gen

variable {F : FTy → Type} [FloatOps F]

local notation "𝕄" => MT nD τ sig Unit (Elt F) ℕ (UR nD τ) ℕ

/-- No core owes another anything: no level is assigned. -/
abbrev L : GSem nD τ sig → Finset Unit := fun _ => ∅
abbrev lv : GSem nD τ sig → Unit → ℕ := fun _ _ => 0

abbrev EP : Emb (UR nD τ) 𝕄 := emb₁

/-- What rides along with the unscoped buffers: the core owes nothing. -/
abbrev rest (c : Dev nD) : sProp 𝕄 := iprop(∃ W, owes (c : Thread nD τ) (0 : CellTallies nD τ sig Unit) W)

section Regs

variable (V W : (c : Dev nD) → (b : Ref sig .tc) → Buf (Elt F) ((c : Thread nD τ).loc b))

/-- The two pipelines' proof data, the first entered at `V`, the second at `W`. -/
def pdats : (p : Fin 2) → (c : Dev nD) → Dat τ (Elt F) Unit ℕ (UR nD τ) ℕ ((cfgs (F := F)) p) c
  | ⟨0, _⟩ => fun c => dat0 V c
  | ⟨1, _⟩ => fun c => dat1 W c

variable (V' : (c : Dev nD) → (b : Ref sig .tc) → Buf (Elt F) ((c : Thread nD τ).loc b))

set_option backward.isDefEq.respectTransparency.types false in
/-- The first region from `V` to `V'`, which differs from it at the sums only. -/
def reg0 (hG : ∀ c t, Good (idB V c t)) (hout : ∀ c, V' c main_v7 = (dat0 V c).arrAt 7 (cfg0 (F := F)).N)
    (hne : ∀ c (b : Ref sig .tc), b ≠ main_v7 → V' c b = V c b) :
    RegionSeg (pcfgs (F := F)) adm (pdats V W) () defs₀ 𝒱₀ L lv 0 where
  win := winFacts₀0
  block_pos := block_pos0
  stage_whole := stage_whole0
  K := PEmpty
  osem k := k.elim
  ho := Pipeline.OwnSemFacts.none _
  hbody c := obligation0 V c (hG c)
  hwaits := Pipeline.hwaits_of_owed_zero _ _ _ _ L lv 0 fun _ _ => rfl
  pre c := iprop(unscopedBufs c (V c) ∗ rest c)
  post c := iprop(unscopedBufs c (V' c) ∗ rest c)
  X _ := BI.emp
  Y _ := BI.emp
  Z c := Pipeline.unscopedRest (Ix := Unit) (Name := ℕ) (U := UR nD τ) (Lvl := ℕ) spec0 c (V c)
  hentry c := by
    rw [Pipeline.ownSems0_none]
    have hsplit := Pipeline.arrays_of_unscopedBufs_shared (p := 0) (pcfgs (F := F)) adm (pdats V W) winFacts₀0 sharedIn0 arr_whole0 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0 = Pipeline.scopedRest (Ix := Unit) (Name := ℕ) (U := UR nD τ) (Lvl := ℕ) (Val := Elt F) spec0 c from rfl]
    iintro ⟨-, -, Hr⟩; iexact Hr
  hout c := by
    rw [Pipeline.ownSems0_none, show (pdats V W 0 c).Φ (Fin.last _) = Pipeline.scopedRest (Ix := Unit) (Name := ℕ) (U := UR nD τ) (Lvl := ℕ) (Val := Elt F) spec0 c from rfl]
    iintro Hr
    isplitr; · iempintro
    isplitr; · iempintro
    iexact Hr
  hexit c := by
    have hjoin := Pipeline.unscopedBufs_of_arrays_shared (p := 0) (pcfgs (F := F)) adm (Ix := Unit) (Name := ℕ) (U := UR nD τ) (Lvl := ℕ)
      winFacts₀0 sharedIn0 arr_whole0 c (pdats V W) (fun _ _ => rfl) (V c) (V' c) ((pdats V W 0 c).arrAt · (cfg0 (F := F)).N)
      (fun w => by
        fin_cases w
        · exact ((pdats V W 0 c).arrAt_in 0 rfl _).trans (hne c main_v2 (by decide)).symm
        · exact ((pdats V W 0 c).arrAt_in 1 rfl _).trans (hne c main_arg0 (by decide)).symm
        · exact ((pdats V W 0 c).arrAt_in 2 rfl _).trans (hne c main_v2 (by decide)).symm
        · exact ((pdats V W 0 c).arrAt_in 3 rfl _).trans (hne c main_v3 (by decide)).symm
        · exact ((pdats V W 0 c).arrAt_in 4 rfl _).trans (hne c main_v4 (by decide)).symm
        · exact ((pdats V W 0 c).arrAt_in 5 rfl _).trans (hne c main_v5 (by decide)).symm
        · exact ((pdats V W 0 c).arrAt_in 6 rfl _).trans (hne c main_v6 (by decide)).symm
        · exact (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second region from `W` to `V'`, which differs from it at the result only. -/
def reg1 (hout : ∀ c, V' c main_v14 = (dat1 W c).arrAt 7 (cfg1 (F := F)).N)
    (hne : ∀ c (b : Ref sig .tc), b ≠ main_v14 → V' c b = W c b) :
    RegionSeg (pcfgs (F := F)) adm (pdats V W) () defs₀ 𝒱₀ L lv 1 where
  win := winFacts1.to₀
  block_pos := block_pos1
  stage_whole := stage_whole1
  K := PEmpty
  osem k := k.elim
  ho := Pipeline.OwnSemFacts.none _
  hbody c := obligation1 W c
  hwaits := Pipeline.hwaits_of_owed_zero _ _ _ _ L lv 1 fun _ _ => rfl
  pre c := iprop(unscopedBufs c (W c) ∗ rest c)
  post c := iprop(unscopedBufs c (V' c) ∗ rest c)
  X _ := BI.emp
  Y _ := BI.emp
  Z c := Pipeline.unscopedRest (Ix := Unit) (Name := ℕ) (U := UR nD τ) (Lvl := ℕ) spec1 c (W c)
  hentry c := by
    rw [Pipeline.ownSems0_none]
    have hsplit := Pipeline.arrays_of_unscopedBufs (p := 1) (pcfgs (F := F)) adm (pdats V W) winFacts1 arr_whole1 c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0 = Pipeline.scopedRest (Ix := Unit) (Name := ℕ) (U := UR nD τ) (Lvl := ℕ) (Val := Elt F) spec1 c from rfl]
    iintro ⟨-, -, Hr⟩; iexact Hr
  hout c := by
    rw [Pipeline.ownSems0_none, show (pdats V W 1 c).Φ (Fin.last _) = Pipeline.scopedRest (Ix := Unit) (Name := ℕ) (U := UR nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR nD τ) (Lvl := ℕ) winFacts1 arr_whole1 c
      (pdats V W) ((pdats V W 1 c).share_full fun _ => rfl) (W c) (V' c) ((pdats V W 1 c).arrAt · (cfg1 (F := F)).N)
      (fun w => by
        fin_cases w
        · exact ((pdats V W 1 c).arrAt_in 0 rfl _).trans (hne c main_v7 (by decide)).symm
        · exact ((pdats V W 1 c).arrAt_in 1 rfl _).trans (hne c main_v8 (by decide)).symm
        · exact ((pdats V W 1 c).arrAt_in 2 rfl _).trans (hne c main_v9 (by decide)).symm
        · exact ((pdats V W 1 c).arrAt_in 3 rfl _).trans (hne c main_v10 (by decide)).symm
        · exact ((pdats V W 1 c).arrAt_in 4 rfl _).trans (hne c main_v11 (by decide)).symm
        · exact ((pdats V W 1 c).arrAt_in 5 rfl _).trans (hne c main_v12 (by decide)).symm
        · exact ((pdats V W 1 c).arrAt_in 6 rfl _).trans (hne c main_v13 (by decide)).symm
        · exact (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Regs

variable (m : (ℓ : Loc nD τ sig) → Buf (Elt F) ℓ)

/-- The buffers at the first region's entry. -/
abbrev V1' (c : Dev nD) (b : Ref sig .tc) : Buf (Elt F) ((c : Thread nD τ).loc b) := V1 m c b
/-- The sums the first region leaves. -/
def sums (c : Dev nD) : Buf (Elt F) ((c : Thread nD τ).loc main_v7) := (dat0 (V1' m) c).arrAt 7 (cfg0 (F := F)).N
/-- The buffers at the second region's entry. -/
def W3 (c : Dev nD) (b : Ref sig .tc) : Buf (Elt F) ((c : Thread nD τ).loc b) :=
  (StableHlo.after hostOps1 (Function.update (V1 m c) main_v7 (sums m c)) : Valuation τ sig (Elt F)) b
/-- The result the second region leaves. -/
def result (c : Dev nD) : Buf (Elt F) ((c : Thread nD τ).loc main_v14) := (dat1 (W3 m) c).arrAt 7 (cfg1 (F := F)).N
/-- What the regions leave. -/
def outs : Outs (F := F) := fun J r c =>
  Function.update (β := fun r : Ref sig .tc => Buf (Elt F) ((c : Thread nD τ).loc r))
    (Function.update (β := fun r : Ref sig .tc => Buf (Elt F) ((c : Thread nD τ).loc r)) (fun r => m ((c : Thread nD τ).loc r)) main_v7 (sums m c)) main_v14 (result m c) r

theorem outs_v7 (J : ℕ) (c : Dev nD) : outs m J main_v7 c = sums m c := by
  unfold outs
  rw [Function.update_of_ne (by decide), Function.update_self]
theorem outs_v14 (J : ℕ) (c : Dev nD) : outs m J main_v14 c = result m c := by
  unfold outs
  rw [Function.update_self]

theorem V3_eq (c : Dev nD) (b : Ref sig .tc) : V3 m (outs m) c b = W3 m c b := by
  unfold W3
  show (StableHlo.after hostOps1 (Function.update (V1 m c) main_v7 (outs m 2 main_v7 c)) : Valuation τ sig (Elt F)) b = _
  rw [outs_v7]

/-- The ghost state at launch: what the two pipelines' staging cells start from. -/
def u₀ : UR nD τ := initOf (Pipeline.cells (Pipeline.pin (pcfgs (F := F)) adm) cellOf_inj) (Pipeline.launchToks (Pipeline.pin (pcfgs (F := F)) adm) cellOf_inj)

/-- What rides along between the items. -/
abbrev ride : Fin 3 → Dev nD → sProp 𝕄 := fun _ c => rest c

/-- The first region's record in the program. -/
abbrev R0 (hG : ∀ c t, Good (idB (V1' m) c t)) : RegionSeg (pcfgs (F := F)) adm (pdats (V1' m) (W3 m)) () defs₀ 𝒱₀ L lv 0 :=
  reg0 (V1' m) (W3 m) (fun c b => V2 m (outs m) c b) hG (fun c => (Function.update_self _ _ _).trans (outs_v7 m 2 c))
    (fun c b hb => V2_of m (outs m) c b (fun h => hb (List.mem_singleton.mp h)))
/-- The second region's record in the program. -/
abbrev R1 : RegionSeg (pcfgs (F := F)) adm (pdats (V1' m) (W3 m)) () defs₀ 𝒱₀ L lv 1 :=
  reg1 (V1' m) (W3 m) (fun c b => V4 m (outs m) c b) (fun c => (Function.update_self _ _ _).trans (outs_v14 m 4 c))
    (fun c b hb => (V4_of m (outs m) c b (fun h => hb (List.mem_singleton.mp h))).trans (V3_eq m c b))

theorem hpre0 (hG : ∀ c t, Good (idB (V1' m) c t)) (c : Dev nD) :
    iprop(StableHlo.held (c : Thread nD τ) (Pipeline.ucRefs τ sig) (V1 m c) ∗ ride (F := F) 0 c) ⊢ (R0 m hG).pre c := by
  rw [← Pipeline.unscopedBufs_held (Ix := Unit) (Name := ℕ) (U := UR nD τ) (Lvl := ℕ) c (V1 m c)]
  exact .rfl
theorem hpost0 (hG : ∀ c t, Good (idB (V1' m) c t)) (c : Dev nD) :
    (R0 m hG).post c ⊢ iprop(StableHlo.held (c : Thread nD τ) (Pipeline.ucRefs τ sig) (V2 m (outs m) c) ∗ ride (F := F) 1 c) := by
  rw [← Pipeline.unscopedBufs_held (Ix := Unit) (Name := ℕ) (U := UR nD τ) (Lvl := ℕ) c (V2 m (outs m) c)]
  exact .rfl
theorem hpre1 (c : Dev nD) :
    iprop(StableHlo.held (c : Thread nD τ) (Pipeline.ucRefs τ sig) (V3 m (outs m) c) ∗ ride (F := F) 1 c) ⊢ (R1 m).pre c := by
  rw [← Pipeline.unscopedBufs_held (Ix := Unit) (Name := ℕ) (U := UR nD τ) (Lvl := ℕ) c (V3 m (outs m) c)]
  rw [show (fun b : Ref sig .tc => V3 m (outs m) c b) = W3 m c from funext (V3_eq m c)]
  exact .rfl
theorem hpost1 (c : Dev nD) :
    (R1 m).post c ⊢ iprop(StableHlo.held (c : Thread nD τ) (Pipeline.ucRefs τ sig) (V4 m (outs m) c) ∗ ride (F := F) 2 c) := by
  rw [← Pipeline.unscopedBufs_held (Ix := Unit) (Name := ℕ) (U := UR nD τ) (Lvl := ℕ) c (V4 m (outs m) c)]
  exact .rfl

set_option backward.isDefEq.respectTransparency.types false in
/-- From any memory whose padded ids are sorted and in range block by block, every weakly fair run ends, keeps the
    arguments, leaves the result at `result` and every semaphore counter at zero. -/
theorem run_main (ρ : Dev nD → PrngReg) (hG : ∀ c t, Good (idB (V1' m) c t)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_v14) = result m c)
      ∧ r.2.sem = fun _ => 0) := by
  refine Pipeline.θ_run_regions_kit_dev_sems (pcfgs (F := F)) adm (pdats (V1' m) (W3 m)) () cellOf_inj EP defs₀ 𝒱₀ L lv m ρ main
    (segs m (outs m) 𝒱₀ L lv ride () (pdats (V1' m) (W3 m)) (R0 m hG) (R1 m))
    (fun c Q => by
      rewrite [main_chain c, Pipeline.Seg.run_eq_chain,
        show (segs m (outs m) 𝒱₀ L lv ride () (pdats (V1' m) (W3 m)) (R0 m hG) (R1 m) c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (fun _ => 0) (fun _ _ => rfl) (fun _ => iprop(emp)) (u₀ (F := F)) ?_
    (T₀ := fun c => iprop(StableHlo.held (c : Thread nD τ) (Pipeline.ucRefs τ sig) (V0 m c) ∗ ride (F := F) 0 c))
    (Tₙ := fun c => StableHlo.held (c : Thread nD τ) (Pipeline.ucRefs τ sig) (V4 m (outs m) c))
    (hch := fun c => ⟨.rfl, hpre0 m hG c, hpost0 m hG c, hpre1 m c, hpost1 m c⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_v14) = result m c)
    (hfin := fun c s' => ?_) (hQ := fun _ h hz => ⟨h, funext fun g => hz g (.inr (regions_no_unscoped g.2))⟩)
  · -- the ghost state: the pipelines' alone
    rw [show (bigSep Finset.univ fun _ : Dev nD => (iprop(emp) : sProp 𝕄)) = iprop(emp) from bigSep_emp_const _]
    have hu : (ownU (u₀ (F := F)) : sProp 𝕄) ⊢ BI.own (EP (F := F) (u₀ (F := F))) := BI.Entails.refl _
    iintro H
    ihave H := hu $$ H
    imodintro
    isplitl [H]; · unfold u₀; iexact H
    iempintro
  · -- the launch: the unscoped buffers as launched, and nothing owed
    have hcore : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ ride (F := F) 0 c) : sProp 𝕄) := fun c => by
      rw [← Pipeline.unscopedBufs_held (Ix := Unit) (Name := ℕ) (U := UR nD τ) (Lvl := ℕ) c (V0 m c)]
      iintro ⟨Hb, -, HO, -, -, -⟩
      isplitl [Hb]; · iexact Hb
      iexists (∅ : _)
      iexact HO
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ ride (F := F) 0 c) : sProp 𝕄) :=
      bigSep_mono fun c _ => hcore c
    iintro ⟨H, -⟩
    ihave H' := hall $$ H
    imodintro
    iexact H'
  · -- the end: each buffer read off the last contents
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c),
        (h (Proc.devRef .tc main_arg10) (Finset.mem_filter.mpr ⟨StableHlo.devRef_mem_tcRefs main_arg10, by decide⟩)).trans (V4_main_arg10 m (outs m) c),
        (h (Proc.devRef .tc main_arg11) (Finset.mem_filter.mpr ⟨StableHlo.devRef_mem_tcRefs main_arg11, by decide⟩)).trans (V4_main_arg11 m (outs m) c),
        (h (Proc.devRef .tc main_v14) (Finset.mem_filter.mpr ⟨StableHlo.devRef_mem_tcRefs main_v14, by decide⟩)).trans ((Function.update_self _ _ _).trans (outs_v14 m 4 c))⟩
    · iexact HSI

end Cert.KernelIdeal.Seg
-- ==== Proof.KI.Entry.lean ====
/-
  What the first region is entered with, read off the arguments: the padded ids, the weights and the biases. The ids of
  each block are in order once the arguments' ids are.
-/
module

public import proofs.«01_k».proof.Proof.KI.Launch

@[expose] public section

noncomputable section

namespace Cert.KernelIdeal.Seg

open Idealize.ShloMosaic Idealize.ShloMosaic.TcCoe Idealize.ShloMosaic.Tactic Idealize.ShloMosaic.ValueIdx
open Idealize.SL.Sem
open Cert.Words Cert.OwnRules Cert.KernelIdeal Cert.KernelIdeal.Gen

variable {F : FTy → Type} [FloatOps F]
variable (m : (ℓ : Loc nD τ sig) → Buf (Elt F) ℓ) (c : Dev nD)

/-- The ids the program is given. -/
abbrev idsOf : Vec F S160000 .i32 := m ((c : Thread nD τ).loc main_arg1)
/-- The ids padded to the grid's rows with a cell past the last. -/
abbrev padded (ids : Vec F S160000 .i32) : Vec F S161792 .i32 :=
  concatenate S161792 0 [⟨S160000, ids⟩, ⟨S1792, (broadcastInDim S1792 ![] bcast_S_S1792 : (⟨S_, .i32⟩ : BufTy).Contents (Elt F) → (⟨S1792, .i32⟩ : BufTy).Contents (Elt F)) (constantI S_ 32 10000#32)⟩] concatenates_S160000_S1792_S161792_d0

theorem V1_v2 : V1 m c main_v2 = (shapeCast S79x1x2048 (padded (F := F) (idsOf m c)) shapeCasts_S161792_S79x1x2048 : Vec F S79x1x2048 .i32) := by
  show StableHlo.after hostOps0 (V0 m c) main_v2 = _
  after_results_simp <;> rfl
theorem V1_v3 : V1 m c main_v3 = (truncf .bf16 (m ((c : Thread nD τ).loc main_arg2) : Vec F S256x512 .f32) bitsLt_bf16_f32 : Vec F S256x512 .bf16) := by
  show StableHlo.after hostOps0 (V0 m c) main_v3 = _
  after_results_simp <;> rfl
theorem V1_v4 : V1 m c main_v4 = (shapeCast S1x512 (m ((c : Thread nD τ).loc main_arg3) : Vec F S512 .f32) shapeCasts_S512_S1x512 : Vec F S1x512 .f32) := by
  show StableHlo.after hostOps0 (V0 m c) main_v4 = _
  after_results_simp <;> rfl
theorem V1_v5 : V1 m c main_v5 = (truncf .bf16 (m ((c : Thread nD τ).loc main_arg4) : Vec F S512x512 .f32) bitsLt_bf16_f32 : Vec F S512x512 .bf16) := by
  show StableHlo.after hostOps0 (V0 m c) main_v5 = _
  after_results_simp <;> rfl
theorem V1_v6 : V1 m c main_v6 = (shapeCast S1x512 (m ((c : Thread nD τ).loc main_arg5) : Vec F S512 .f32) shapeCasts_S512_S1x512 : Vec F S1x512 .f32) := by
  show StableHlo.after hostOps0 (V0 m c) main_v6 = _
  after_results_simp <;> rfl
theorem W3_v7 : W3 m c main_v7 = sums m c := by
  refine (StableHlo.after_of_writes_sub hostOps1 _ hostOps1_writes (r := main_v7) (by decide)).trans ?_
  exact Function.update_self ..
theorem W3_v8 : W3 m c main_v8 = (truncf .bf16 (m ((c : Thread nD τ).loc main_arg6) : Vec F S512x512 .f32) bitsLt_bf16_f32 : Vec F S512x512 .bf16) := by
  show StableHlo.after hostOps1 _ main_v8 = _
  after_results_simp <;> rfl
theorem W3_v9 : W3 m c main_v9 = (shapeCast S1x512 (m ((c : Thread nD τ).loc main_arg7) : Vec F S512 .f32) shapeCasts_S512_S1x512 : Vec F S1x512 .f32) := by
  show StableHlo.after hostOps1 _ main_v9 = _
  after_results_simp <;> rfl
theorem W3_v10 : W3 m c main_v10 = (truncf .bf16 (m ((c : Thread nD τ).loc main_arg8) : Vec F S512x512 .f32) bitsLt_bf16_f32 : Vec F S512x512 .bf16) := by
  show StableHlo.after hostOps1 _ main_v10 = _
  after_results_simp <;> rfl
theorem W3_v11 : W3 m c main_v11 = (shapeCast S1x512 (m ((c : Thread nD τ).loc main_arg9) : Vec F S512 .f32) shapeCasts_S512_S1x512 : Vec F S1x512 .f32) := by
  show StableHlo.after hostOps1 _ main_v11 = _
  after_results_simp <;> rfl
theorem W3_v12 : W3 m c main_v12 = (truncf .bf16 (m ((c : Thread nD τ).loc main_arg10) : Vec F S512x256 .f32) bitsLt_bf16_f32 : Vec F S512x256 .bf16) := by
  show StableHlo.after hostOps1 _ main_v12 = _
  after_results_simp <;> rfl
theorem W3_v13 : W3 m c main_v13 = (shapeCast S1x256 (m ((c : Thread nD τ).loc main_arg11) : Vec F S256 .f32) shapeCasts_S256_S1x256 : Vec F S1x256 .f32) := by
  show StableHlo.after hostOps1 _ main_v13 = _
  after_results_simp <;> rfl

/-- The id at a row of the padded rows. -/
def padId (ids : Vec F S160000 .i32) (n : ℕ) : BitVec 32 := if h : n < 160000 then ids (ix1 ⟨n, h⟩) else 10000#32

theorem padded_apply (ids : Vec F S160000 .i32) (n : ℕ) (hn : n < 161792) : padded (F := F) ids (ix1 ⟨n, hn⟩) = padId (F := F) ids n := by
  unfold padId
  split
  · next h =>
    refine (concatenate_pair_apply_left (t := S161792) (s₁ := S160000) (s₂ := S1792) 0 _ _ _ _ rfl (ix1 ⟨n, h⟩) ?_).trans rfl
    intro b
    match b with
    | ⟨0, _⟩ => rfl
  · next h =>
    refine (concatenate_pair_apply_right (t := S161792) (s₁ := S160000) (s₂ := S1792) 0 _ _ _ _ rfl rfl (ix1 ⟨n - 160000, by omega⟩) ?_ ?_).trans rfl
    · intro b hb; exact absurd (Subsingleton.elim (α := Fin 1) _ _) hb
    · show n - 160000 + 160000 = n; omega

/-- The ids of a block are the padded ids of its rows. -/
theorem idB_apply (t : Fin grid0.N) (j : Fin 2048) :
    idw (F := F) (idB (V1' m) c t) j = padId (F := F) (idsOf m c) (t.val * 2048 + j.val) := by
  have ht : t.val < 79 := lt_of_lt_of_eq t.isLt N_0
  have e0 : ((win0_0.blk t).view.emb (ix3 0 0 j) : S79x1x2048.Idx) = ix3 ⟨t.val, ht⟩ 0 j := by
    refine funext fun a => Fin.ext ?_
    match a with
    | ⟨0, _⟩ => refine (Pipeline.Window.rect_emb_val win0_0 t (ix3 0 0 j) 0).trans ?_
                show (BitVec.ofNat 32 _).toNat * 1 + 0 = t.val
                rw [word_coord]; omega
    | ⟨1, _⟩ => exact (Pipeline.Window.rect_emb_val win0_0 t (ix3 0 0 j) 1).trans rfl
    | ⟨2, _⟩ => refine (Pipeline.Window.rect_emb_val win0_0 t (ix3 0 0 j) 2).trans ?_
                show 0 * 2048 + j.val = j.val; omega
  have e1 : idw (F := F) (idB (V1' m) c t) j = (V1 m c main_v2 : Vec F S79x1x2048 .i32) (ix3 ⟨t.val, ht⟩ 0 j) :=
    congrArg (V1 m c main_v2 : Vec F S79x1x2048 .i32) e0
  rw [e1, V1_v2]
  refine (shapeCast_apply (s := S161792) (t := S79x1x2048) _ _ _ (ix1 ⟨t.val * 2048 + j.val, by omega⟩) ?_).trans (padded_apply _ _ _)
  rw [Shape.rowMajor_val_one, Shape.rowMajor_val_three]
  show t.val * 2048 + j.val = (t.val * 1 + 0) * 2048 + j.val
  omega

theorem good_blocks (ids : Vec F S160000 .i32) (hlt : ∀ k : Fin 160000, (ids (ix1 k)).toNat < 10000)
    (hle : ∀ j k : Fin 160000, j ≤ k → (ids (ix1 j)).toNat ≤ (ids (ix1 k)).toNat) (hm : idsOf m c = ids) (t : Fin grid0.N) :
    Good (F := F) (idB (V1' m) c t) := by
  constructor
  · intro j
    unfold idn
    rw [idB_apply, hm]; unfold padId
    split
    · exact (hlt _).le
    · exact le_refl _
  · intro j k hjk
    have hjk' : j.val ≤ k.val := hjk
    unfold idn
    rw [idB_apply, idB_apply, hm]; unfold padId
    split
    · next h1 =>
      split
      · next h2 => exact hle _ _ (by show t.val * 2048 + j.val ≤ t.val * 2048 + k.val; omega)
      · exact (hlt _).le
    · next h1 =>
      rw [dif_neg (by omega)]

end Cert.KernelIdeal.Seg
-- ==== Proof.Frames.lean ====
/-
  The three programs run to the end, keep their arguments and leave every semaphore counter at zero.
-/
module

public import proofs.«01_k».proof.Defs
public import proofs.«01_k».proof.Proof.Pre
public import proofs.«01_k».proof.Proof.K.Entry
public import proofs.«01_k».proof.Proof.KI.Entry
public import proofs.«01_k».proof.Proof.Gen.ReferenceIdeal.Run

@[expose] public section

noncomputable section

namespace Cert.Frames

open Idealize.ShloMosaic Idealize.ShloMosaic.TcCoe Idealize.SL.Sem

theorem good_Kernel [Cert.Pre_ids_sorted_in_range.Facts] (m : (ℓ : Loc Cert.Kernel.nD Cert.Kernel.τ Cert.Kernel.sig) → Buf (Elt Bits) ℓ)
    (h : Cert.Pre_Kernel m) (c : Dev Cert.Kernel.nD) (t : Fin Cert.Kernel.grid0.N) :
    Cert.Kernel.Seg.Good (F := Bits) (Cert.Kernel.Seg.idB (Cert.Kernel.Seg.V1' m) c t) :=
  have d := Cert.PreIds.decoded (h c)
  Cert.Kernel.Seg.good_blocks m c _ d.1 d.2 rfl t

theorem good_KernelIdeal [Cert.Pre_ids_sorted_in_range.Facts] (m : (ℓ : Loc Cert.KernelIdeal.nD Cert.KernelIdeal.τ Cert.KernelIdeal.sig) → Buf (Elt Ideal) ℓ)
    (h : Cert.Pre_KernelIdeal m) (c : Dev Cert.KernelIdeal.nD) (t : Fin Cert.KernelIdeal.grid0.N) :
    Cert.KernelIdeal.Seg.Good (F := Ideal) (Cert.KernelIdeal.Seg.idB (Cert.KernelIdeal.Seg.V1' m) c t) :=
  have d := Cert.PreIds.decoded (h c)
  Cert.KernelIdeal.Seg.good_blocks m c _ d.1 d.2 rfl t

theorem frame_Kernel [Cert.Pre_ids_sorted_in_range.Facts] : Cert.quiescent_Kernel := fun m g h =>
  (θ_run Cert.Kernel.defs _ _).mono
    (fun r hr => ⟨fun c => by
      obtain ⟨a0, a1, a2, a3, a4, a5, a6, a7, a8, a9, a10, a11, _⟩ := hr.1 c
      exact ⟨a0, a1, a2, a3, a4, a5, a6, a7, a8, a9, a10, a11⟩, hr.2⟩)
    (Cert.Kernel.Seg.run_main m g (good_Kernel m h))

theorem frame_KernelIdeal [Cert.Pre_ids_sorted_in_range.Facts] : Cert.quiescent_KernelIdeal := fun m g h =>
  (θ_run Cert.KernelIdeal.defs _ _).mono
    (fun r hr => ⟨fun c => by
      obtain ⟨a0, a1, a2, a3, a4, a5, a6, a7, a8, a9, a10, a11, _⟩ := hr.1 c
      exact ⟨a0, a1, a2, a3, a4, a5, a6, a7, a8, a9, a10, a11⟩, hr.2⟩)
    (Cert.KernelIdeal.Seg.run_main m g (good_KernelIdeal m h))

theorem frame_ReferenceIdeal : Cert.quiescent_ReferenceIdeal := fun m g _ =>
  (θ_run Cert.ReferenceIdeal.defs _ _).mono
    (fun r hr => ⟨fun c => (hr c).2, sem_eq_zero_of_no_sems (by decide) r.2⟩)
    (Cert.ReferenceIdeal.Value.run m g)

/-- The same, of the runs the value claim speaks of. -/
theorem frame_ReferenceIdeal_sorted [Cert.Pre_ids_sorted_in_range.Facts] : Cert.quiescent_ReferenceIdeal_pre_ids_sorted_in_range := fun m g _ =>
  frame_ReferenceIdeal m g trivial

end Cert.Frames
-- ==== Proof.Spec.lean ====
/-
  What both programs compute, over rows of extended reals: a chunk's features, and a cell's output.
-/
module

public import Mathlib.Data.EReal.Operations
public import Mathlib.Algebra.BigOperators.Fin

@[expose] public section

noncomputable section

namespace Cert.Spec

/-- One dense layer of a row. -/
def layer {K N : ℕ} (x : Fin K → EReal) (W : Fin K → Fin N → EReal) (b : Fin N → EReal) (n : Fin N) : EReal :=
  (∑ k, x k * W k n) + b n

/-- A dense layer followed by the maximum with zero. -/
def dense {K N : ℕ} (x : Fin K → EReal) (W : Fin K → Fin N → EReal) (b : Fin N → EReal) (n : Fin N) : EReal :=
  max (layer x W b n) 0

/-- The features of a chunk. -/
def phi (w0 : Fin 256 → Fin 512 → EReal) (b0 : Fin 512 → EReal) (w1 : Fin 512 → Fin 512 → EReal) (b1 : Fin 512 → EReal)
    (x : Fin 256 → EReal) : Fin 512 → EReal := dense (dense x w0 b0) w1 b1

/-- The output of a cell with the sums `a`. -/
def rho (w0 : Fin 512 → Fin 512 → EReal) (b0 : Fin 512 → EReal) (w1 : Fin 512 → Fin 512 → EReal) (b1 : Fin 512 → EReal)
    (w2 : Fin 512 → Fin 256 → EReal) (b2 : Fin 256 → EReal) (a : Fin 512 → EReal) : Fin 256 → EReal :=
  layer (dense (dense a w0 b0) w1 b1) w2 b2

end Cert.Spec
-- ==== Proof.KI.Pure.lean ====
/-
  The payloads over the extended reals, element by element.
-/
module

public import proofs.«01_k».proof.Proof.Spec
public import proofs.«01_k».proof.Proof.KI.Feat
public import Idealize.ShloMosaic.Lib.Pointwise

@[expose] public section

set_option maxRecDepth 16384

noncomputable section

namespace Cert.KernelIdeal.Pure

open Idealize.ShloMosaic Idealize.ShloMosaic.TcCoe Idealize.SL.Sem
open Cert.KernelIdeal Cert.KernelIdeal.Gen Cert.Spec

/-- The features of a block's rows, once masked. -/
def feat (y : FVec Ideal S2048x256 .f32) (w0 : FVec Ideal S256x512 .bf16) (b0 : FVec Ideal S1x512 .f32) (w1 : FVec Ideal S512x512 .bf16)
    (b1 : FVec Ideal S1x512 .f32) : FVec Ideal S2048x512 .bf16 :=
  truncf .bf16 (maximumf (addf (matmul dot_S2048x512_S512x512_S2048x512_1_0_0_1_n_n none
    (truncf .bf16 (maximumf (addf (matmul dot_S2048x256_S256x512_S2048x512_1_0_0_1_n_n none (truncf .bf16 y bitsLt_bf16_f32)
      (shapeCast S256x512 w0 shapeCasts_S256x512_S256x512) (constant S2048x512 .f32 0x00000000#32))
      (broadcastTo S2048x512 (shapeCast S1x512 b0 shapeCasts_S1x512_S1x512) broadcasts_S1x512_S2048x512))
      (broadcast S2048x512 (Scalar.ofBits .f32 0x00000000#32))) bitsLt_bf16_f32)
    (shapeCast S512x512 w1 shapeCasts_S512x512_S512x512) (constant S2048x512 .f32 0x00000000#32))
    (broadcastTo S2048x512 (shapeCast S1x512 b1 shapeCasts_S1x512_S1x512) broadcasts_S1x512_S2048x512))
    (broadcast S2048x512 (Scalar.ofBits .f32 0x00000000#32))) bitsLt_bf16_f32

theorem feat_apply (y : FVec Ideal S2048x256 .f32) (w0 : FVec Ideal S256x512 .bf16) (b0 : FVec Ideal S1x512 .f32) (w1 : FVec Ideal S512x512 .bf16)
    (b1 : FVec Ideal S1x512 .f32) (r : Fin 2048) (n : Fin 512) :
    feat y w0 b0 w1 b1 (ix2 r n)
      = phi (fun k n => w0 (ix2 k n)) (fun n => b0 (ix2 0 n)) (fun k n => w1 (ix2 k n)) (fun n => b1 (ix2 0 n)) (fun k => y (ix2 r k)) n := by
  simp only [phi, dense, layer]
  pointwise! [feat]

theorem pay3_apply (i : grid0.Coords) (x : FVec Ideal S2048x256 .f32) (w0 : FVec Ideal S256x512 .bf16) (b0 : FVec Ideal S1x512 .f32)
    (w1 : FVec Ideal S512x512 .bf16) (b1 : FVec Ideal S1x512 .f32) (r : Fin 2048) (n : Fin 512) :
    k0_pay3 (F := Ideal) i x w0 b0 w1 b1 (ix2 r n)
      = phi (fun k n => w0 (ix2 k n)) (fun n => b0 (ix2 0 n)) (fun k n => w1 (ix2 k n)) (fun n => b1 (ix2 0 n))
          (fun k => Cert.KernelIdeal.Seg.maskRows (F := Ideal) i x (ix2 r k)) n := by
  rw [← feat_apply]
  refine congrFun ?_ _
  rw [← Cert.KernelIdeal.Seg.select_mask]
  rfl

theorem rho_apply (a : FVec Ideal S1000x512 .f32) (w0 : FVec Ideal S512x512 .bf16) (b0 : FVec Ideal S1x512 .f32) (w1 : FVec Ideal S512x512 .bf16)
    (b1 : FVec Ideal S1x512 .f32) (w2 : FVec Ideal S512x256 .bf16) (b2 : FVec Ideal S1x256 .f32) (r : Fin 1000) (n : Fin 256) :
    k1_pay1 (F := Ideal) a w0 b0 w1 b1 w2 b2 (ix2 r n)
      = rho (fun k n => w0 (ix2 k n)) (fun n => b0 (ix2 0 n)) (fun k n => w1 (ix2 k n)) (fun n => b1 (ix2 0 n))
          (fun k n => w2 (ix2 k n)) (fun n => b2 (ix2 0 n)) (fun k => a (ix2 r k)) n := by
  simp only [rho, dense, layer]
  pointwise! [k1_pay1]

theorem pay2_apply (r : Fin 10496) (n : Fin 512) : k0_pay2 (F := Ideal) (ix2 r n) = (0 : EReal) := by
  pointwise! [k0_pay2]

/-- A comparison's bit as an extended real. -/
theorem bit_real (p : Bool) : FloatOps.sitofp (F := Ideal) .f32 (BitVec.setWidth 32 (BitVec.ofBool p)) = (if p = true then 1 else 0 : EReal) := by
  cases p
  · show (((BitVec.setWidth 32 (BitVec.ofBool false)).toInt : ℝ) : EReal) = _
    simp
  · show (((BitVec.setWidth 32 (BitVec.ofBool true)).toInt : ℝ) : EReal) = _
    have e : (BitVec.setWidth 32 (BitVec.ofBool true)).toInt = 1 := by decide
    rw [e]; simp

/-- A row of the window is the row an id names, as words and as numbers. -/
theorem row_word (r : ℕ) (hr : r < 256) (w v : BitVec 32) (hw : w.toNat ≤ 10000) (hv : v.toNat ≤ 10000) :
    IntOp.cmpi .eq (BitVec.ofNat 32 r) (IntOp.subi w (Cert.Words.floor8 v)) = BitVec.ofBool (decide (w.toNat = v.toNat / 8 * 8 + r)) := by
  have hf := Cert.Words.floor8_toNat v hv
  generalize Cert.Words.floor8 v = b at hf ⊢
  show BitVec.ofBool (BitVec.ofNat 32 r == w - b) = _
  refine congrArg BitVec.ofBool ?_
  rw [Bool.eq_iff_iff, beq_iff_eq, decide_eq_true_iff, ← BitVec.toNat_inj, BitVec.toNat_sub, BitVec.toNat_ofNat, hf]
  omega

/-- One trip's payload: each row of the window has the chunks of its cell added. -/
theorem pay4_apply (ids : IVec S1x2048 32) (hids : ∀ k : Fin 2048, (ids (ix2 0 k)).toNat ≤ 10000) (h : FVec Ideal S2048x512 .bf16) (v : BitVec 32)
    (hv : v.toNat ≤ 10000) (A : FVec Ideal S256x512 .f32) (r : Fin 256) (n : Fin 512) :
    k0_pay4 (F := Ideal) ids h v A (ix2 r n)
      = (show EReal from A (ix2 r n)) + ∑ k : Fin 2048, if (ids (ix2 0 k)).toNat = v.toNat / 8 * 8 + r.val then (show EReal from h (ix2 k n)) else 0 := by
  pointwise [k0_pay4]
  refine congrArg (fun e : EReal => (show EReal from A (ix2 r n)) + e) ?_
  refine Finset.sum_congr rfl fun k _ => ?_
  have e := row_word r.val r.isLt (ids (ix2 0 k)) v (hids k) hv
  unfold Cert.Words.floor8 at e
  rw [e, bit_real]
  by_cases hc : (ids (ix2 0 k)).toNat = v.toNat / 8 * 8 + r.val
  · rw [if_pos (decide_eq_true hc), if_pos hc]; exact one_mul _
  · rw [if_neg (by rw [decide_eq_false hc]; decide), if_neg hc]; exact zero_mul _

end Cert.KernelIdeal.Pure
-- ==== Proof.KI.LoopSum.lean ====
/-
  The loop over the extended reals: from the `p`-th chunk on it adds to each row of the sums the features of the chunks
  whose id is that row.
-/
module

public import proofs.«01_k».proof.Proof.KI.Pure
public import proofs.«01_k».proof.Proof.KI.Loop

@[expose] public section

set_option maxRecDepth 16384

noncomputable section

namespace Cert.KernelIdeal.Pure

open Idealize.ShloMosaic Idealize.ShloMosaic.TcCoe Idealize.SL.Sem
open Cert.KernelIdeal Cert.KernelIdeal.Gen Cert.KernelIdeal.Seg Cert.Spec

theorem pay1_at (X : Vec Ideal S1x1x2048 .i32) (k : Fin 2048) : k0_pay1 (F := Ideal) X (ix2 0 k) = idw (F := Ideal) X k :=
  (congrArg (k0_pay1 (F := Ideal) X) (by funext a; match a with | ⟨0, _⟩ => rfl | ⟨1, _⟩ => rfl)).trans (pay1_apply (F := Ideal) X k)

/-- One trip at a row: inside the window its chunks are added, elsewhere nothing is. -/
theorem trip_apply {X : Vec Ideal S1x1x2048 .i32} (hX : Good (F := Ideal) X) (h : FVec Ideal S2048x512 .bf16) (v : BitVec 32) (hv : v.toNat ≤ 10000)
    (A : FVec Ideal S10496x512 .f32) (R : Fin 10496) (n : Fin 512) :
    trip (F := Ideal) X h v (chk2_of v hv) A (ix2 R n)
      = (show EReal from A (ix2 R n)) + ∑ k : Fin 2048,
          if idn (F := Ideal) X k = R.val ∧ v.toNat / 8 * 8 ≤ R.val ∧ R.val < v.toNat / 8 * 8 + 256 then (show EReal from h (ix2 k n)) else 0 := by
  have hoff := off2_eq v hv
  by_cases hin : v.toNat / 8 * 8 ≤ R.val ∧ R.val < v.toNat / 8 * 8 + 256
  · have hr : R.val - v.toNat / 8 * 8 < 256 := by omega
    have hemb : (window v (chk2_of v hv)).emb (ix2 (⟨R.val - v.toNat / 8 * 8, hr⟩ : Fin 256) n : S256x512.Idx) = (ix2 R n : S10496x512.Idx) := by
      funext a
      refine Fin.ext ?_
      rw [Rect.emb_apply]
      match a with
      | ⟨0, _⟩ =>
        show k0_off2 v 0 + 1 * (R.val - v.toNat / 8 * 8) = R.val
        rw [hoff]; show v.toNat / 8 * 8 + 1 * (R.val - v.toNat / 8 * 8) = R.val; omega
      | ⟨1, _⟩ =>
        show k0_off2 v 1 + 1 * n.val = n.val
        rw [hoff]; show 0 + 1 * n.val = n.val; omega
    have e1 : trip (F := Ideal) X h v (chk2_of v hv) A (ix2 R n)
        = k0_pay4 (F := Ideal) (k0_pay1 X) h v (fun x => A ((window v (chk2_of v hv)).emb x)) (ix2 (⟨R.val - v.toNat / 8 * 8, hr⟩ : Fin 256) n) := by
      unfold trip
      rw [← hemb]
      exact Rect.overlay_emb _ _ _ _
    rw [e1]
    refine (pay4_apply (k0_pay1 (F := Ideal) X) (fun k => by rw [pay1_at]; exact hX.le k) h v hv _ _ n).trans ?_
    refine congrArg₂ (fun a b : EReal => a + b) (congrArg A hemb) ?_
    refine Finset.sum_congr rfl fun k _ => ?_
    rw [pay1_at]
    refine if_congr ?_ rfl rfl
    show idn (F := Ideal) X k = v.toNat / 8 * 8 + (R.val - v.toNat / 8 * 8) ↔ _
    omega
  · have e1 : trip (F := Ideal) X h v (chk2_of v hv) A (ix2 R n) = A (ix2 R n) := by
      unfold trip
      refine Rect.overlay_of_not_mem _ _ _ ?_
      intro hm
      rw [← Rect.map_emb_univ] at hm
      obtain ⟨x, -, hx⟩ := Finset.mem_map.mp hm
      have h0 : k0_off2 v 0 + 1 * (x 0).val = R.val := congrArg Fin.val (congrFun hx 0)
      have hx0 : (x 0).val < 256 := (x 0).isLt
      rw [hoff] at h0
      have h0' : v.toNat / 8 * 8 + 1 * (x 0).val = R.val := h0
      omega
    rw [e1, Finset.sum_eq_zero (fun k _ => if_neg (fun hc => hin hc.2))]
    exact (add_zero _).symm

/-- The loop at a row, from a chunk before which every id is below some multiple of eight, and after which none is. -/
theorem loop_apply {X : Vec Ideal S1x1x2048 .i32} (hX : Good (F := Ideal) X) (h : FVec Ideal S2048x512 .bf16) (R : Fin 10496) (n : Fin 512) :
    ∀ (fuel : ℕ) (p : BitVec 32) (A : FVec Ideal S10496x512 .f32) (C : ℕ), p.toNat ≤ 2048 → 2048 ≤ p.toNat + fuel →
      (∀ j : Fin 2048, j.val < p.toNat ↔ idn (F := Ideal) X j < C * 8) →
      loopRes (F := Ideal) X h fuel p A (ix2 R n)
        = (show EReal from A (ix2 R n)) + ∑ k : Fin 2048, if p.toNat ≤ k.val ∧ idn (F := Ideal) X k = R.val then (show EReal from h (ix2 k n)) else 0 := by
  intro fuel
  have hdone : ∀ (fuel : ℕ) (p : BitVec 32) (A : FVec Ideal S10496x512 .f32), ¬ p.toNat < 2048 →
      loopRes (F := Ideal) X h fuel p A (ix2 R n)
        = (show EReal from A (ix2 R n)) + ∑ k : Fin 2048, if p.toNat ≤ k.val ∧ idn (F := Ideal) X k = R.val then (show EReal from h (ix2 k n)) else 0 := by
    intro fuel p A hp
    rw [loopRes_done (F := Ideal) X h fuel p A hp, Finset.sum_eq_zero (fun k _ => if_neg (fun hc => by have := k.isLt; omega))]
    exact (add_zero _).symm
  induction fuel with
  | zero => intro p A C hp hf hC; exact hdone 0 p A (by omega)
  | succ fuel ih =>
    intro p A C hp hf hC
    by_cases hlt : p.toNat < 2048
    · rw [loopRes_trip hX h fuel p A hlt]
      have hv : (idw (F := Ideal) X ⟨p.toNat, hlt⟩).toNat ≤ 10000 := hX.le ⟨p.toNat, hlt⟩
      have hgt : p.toNat < (nextw (F := Ideal) X (idw X ⟨p.toNat, hlt⟩)).toNat := next_gt hX ⟨p.toNat, hlt⟩
      have hle := next_le hX ⟨p.toNat, hlt⟩
      have hnext : ∀ j : Fin 2048, j.val < (nextw (F := Ideal) X (idw X ⟨p.toNat, hlt⟩)).toNat
          ↔ idn (F := Ideal) X j < ((idw (F := Ideal) X ⟨p.toNat, hlt⟩).toNat / 8 + 32) * 8 := by
        intro j
        rw [nextw_toNat hX _ hv, lt_below_iff hX]
        have : (idw (F := Ideal) X ⟨p.toNat, hlt⟩).toNat / 8 * 8 + 256 = ((idw (F := Ideal) X ⟨p.toNat, hlt⟩).toNat / 8 + 32) * 8 := by omega
        rw [this]
      have hCp : ¬ idn (F := Ideal) X ⟨p.toNat, hlt⟩ < C * 8 := fun hc => absurd ((hC ⟨p.toNat, hlt⟩).2 hc) (lt_irrefl _)
      have hmono := fun k hk => hX.mono ⟨p.toNat, hlt⟩ k hk
      refine (ih _ _ _ hle (by omega) hnext).trans ?_
      rw [trip_apply hX h _ hv A R n]
      unfold idn at hCp hmono hC hnext ⊢
      generalize (nextw (F := Ideal) X (idw X ⟨p.toNat, hlt⟩)).toNat = p' at hgt hle hnext ⊢
      generalize (idw (F := Ideal) X ⟨p.toNat, hlt⟩).toNat = vn at hv hCp hmono hnext ⊢
      refine (add_assoc (G := EReal) _ _ _).trans ?_
      refine congrArg (fun e : EReal => (show EReal from A (ix2 R n)) + e) ?_
      rw [← Finset.sum_add_distrib]
      refine Finset.sum_congr rfl fun k _ => ?_
      have h1 := hC k
      have h2 := hnext k
      have h3 := hmono k
      generalize (show EReal from h (ix2 k n)) = e
      have h4 : p.toNat ≤ k.val → vn ≤ (idw (F := Ideal) X k).toNat := fun hk => h3 (Fin.le_def.2 hk)
      generalize (idw (F := Ideal) X k).toNat = q at h1 h2 h4 ⊢
      clear h3 hmono hC hnext ih hdone
      by_cases c : p.toNat ≤ k.val ∧ q = R.val
      · rw [if_pos c]
        by_cases c2 : k.val < p'
        · rw [if_pos (by omega), if_neg (by omega), add_zero]
        · rw [if_neg (by omega), if_pos (by omega), zero_add]
      · rw [if_neg c, if_neg (by omega), if_neg (by omega), add_zero]
    · exact hdone _ p A hlt

end Cert.KernelIdeal.Pure
-- ==== Proof.KI.Blocks.lean ====
/-
  The staged blocks over the extended reals, read off the arguments.
-/
module

public import proofs.«01_k».proof.Proof.KI.Pure
public import proofs.«01_k».proof.Proof.KI.Entry

@[expose] public section

set_option maxRecDepth 16384

noncomputable section

namespace Cert.KernelIdeal.Pure

open Idealize.ShloMosaic Idealize.ShloMosaic.TcCoe Idealize.SL.Sem
open Cert.KernelIdeal Cert.KernelIdeal.Gen Cert.KernelIdeal.Seg Cert.Spec

variable (m : (ℓ : Loc nD τ sig) → Buf (Elt Ideal) ℓ) (c : Dev nD)

/-- The arguments, as arrays. -/
abbrev argX : FVec Ideal S160000x256 .f32 := m ((c : Thread nD τ).loc main_arg0)
abbrev argW0 : FVec Ideal S256x512 .f32 := m ((c : Thread nD τ).loc main_arg2)
abbrev argB0 : FVec Ideal S512 .f32 := m ((c : Thread nD τ).loc main_arg3)
abbrev argW1 : FVec Ideal S512x512 .f32 := m ((c : Thread nD τ).loc main_arg4)
abbrev argB1 : FVec Ideal S512 .f32 := m ((c : Thread nD τ).loc main_arg5)
abbrev argR0 : FVec Ideal S512x512 .f32 := m ((c : Thread nD τ).loc main_arg6)
abbrev argS0 : FVec Ideal S512 .f32 := m ((c : Thread nD τ).loc main_arg7)
abbrev argR1 : FVec Ideal S512x512 .f32 := m ((c : Thread nD τ).loc main_arg8)
abbrev argS1 : FVec Ideal S512 .f32 := m ((c : Thread nD τ).loc main_arg9)
abbrev argR2 : FVec Ideal S512x256 .f32 := m ((c : Thread nD τ).loc main_arg10)
abbrev argS2 : FVec Ideal S256 .f32 := m ((c : Thread nD τ).loc main_arg11)

/-- A row of biases is the biases. -/
theorem row512 (x : FVec Ideal S512 .f32) (n : Fin 512) : shapeCast S1x512 x shapeCasts_S512_S1x512 (ix2 0 n) = x (ix1 n) := by
  pointwise
theorem row256 (x : FVec Ideal S256 .f32) (n : Fin 256) : shapeCast S1x256 x shapeCasts_S256_S1x256 (ix2 0 n) = x (ix1 n) := by
  pointwise

theorem w0B_eq (t : Fin grid0.N) (k : Fin 256) (n : Fin 512) : w0B (V1' m) c t (ix2 k n) = argW0 m c (ix2 k n) := by
  have e : (win0_3.blk t).view.emb (ix2 k n : S256x512.Idx) = (ix2 k n : S256x512.Idx) := by
    refine funext fun a => Fin.ext ?_
    match a with
    | ⟨0, _⟩ => exact Pipeline.Window.rect_emb_val_of_index_zero win0_3 t 0 rfl _
    | ⟨1, _⟩ => exact Pipeline.Window.rect_emb_val_of_index_zero win0_3 t 1 rfl _
  exact (congrArg (V1 m c main_v3 : Vec Ideal S256x512 .bf16) e).trans (congrFun (V1_v3 m c) _)
theorem b0B_eq (t : Fin grid0.N) (n : Fin 512) : b0B (V1' m) c t (ix2 0 n) = argB0 m c (ix1 n) := by
  have e : (win0_4.blk t).view.emb (ix2 0 n : S1x512.Idx) = (ix2 0 n : S1x512.Idx) := by
    refine funext fun a => Fin.ext ?_
    match a with
    | ⟨0, _⟩ => exact Pipeline.Window.rect_emb_val_of_index_zero win0_4 t 0 rfl _
    | ⟨1, _⟩ => exact Pipeline.Window.rect_emb_val_of_index_zero win0_4 t 1 rfl _
  exact (congrArg (V1 m c main_v4 : Vec Ideal S1x512 .f32) e).trans ((congrFun (V1_v4 m c) _).trans (row512 _ n))
theorem w1B_eq (t : Fin grid0.N) (k : Fin 512) (n : Fin 512) : w1B (V1' m) c t (ix2 k n) = argW1 m c (ix2 k n) := by
  have e : (win0_5.blk t).view.emb (ix2 k n : S512x512.Idx) = (ix2 k n : S512x512.Idx) := by
    refine funext fun a => Fin.ext ?_
    match a with
    | ⟨0, _⟩ => exact Pipeline.Window.rect_emb_val_of_index_zero win0_5 t 0 rfl _
    | ⟨1, _⟩ => exact Pipeline.Window.rect_emb_val_of_index_zero win0_5 t 1 rfl _
  exact (congrArg (V1 m c main_v5 : Vec Ideal S512x512 .bf16) e).trans (congrFun (V1_v5 m c) _)
theorem b1B_eq (t : Fin grid0.N) (n : Fin 512) : b1B (V1' m) c t (ix2 0 n) = argB1 m c (ix1 n) := by
  have e : (win0_6.blk t).view.emb (ix2 0 n : S1x512.Idx) = (ix2 0 n : S1x512.Idx) := by
    refine funext fun a => Fin.ext ?_
    match a with
    | ⟨0, _⟩ => exact Pipeline.Window.rect_emb_val_of_index_zero win0_6 t 0 rfl _
    | ⟨1, _⟩ => exact Pipeline.Window.rect_emb_val_of_index_zero win0_6 t 1 rfl _
  exact (congrArg (V1 m c main_v6 : Vec Ideal S1x512 .f32) e).trans ((congrFun (V1_v6 m c) _).trans (row512 _ n))

theorem r0B_eq (t : Fin grid1.N) (k : Fin 512) (n : Fin 512) : r0B (W3 m) c t (ix2 k n) = argR0 m c (ix2 k n) := by
  have e : (win1_1.blk t).view.emb (ix2 k n : S512x512.Idx) = (ix2 k n : S512x512.Idx) := by
    refine funext fun a => Fin.ext ?_
    match a with
    | ⟨0, _⟩ => exact Pipeline.Window.rect_emb_val_of_index_zero win1_1 t 0 rfl _
    | ⟨1, _⟩ => exact Pipeline.Window.rect_emb_val_of_index_zero win1_1 t 1 rfl _
  exact (congrArg (W3 m c main_v8 : Vec Ideal S512x512 .bf16) e).trans (congrFun (W3_v8 m c) _)
theorem s0B_eq (t : Fin grid1.N) (n : Fin 512) : s0B (W3 m) c t (ix2 0 n) = argS0 m c (ix1 n) := by
  have e : (win1_2.blk t).view.emb (ix2 0 n : S1x512.Idx) = (ix2 0 n : S1x512.Idx) := by
    refine funext fun a => Fin.ext ?_
    match a with
    | ⟨0, _⟩ => exact Pipeline.Window.rect_emb_val_of_index_zero win1_2 t 0 rfl _
    | ⟨1, _⟩ => exact Pipeline.Window.rect_emb_val_of_index_zero win1_2 t 1 rfl _
  exact (congrArg (W3 m c main_v9 : Vec Ideal S1x512 .f32) e).trans ((congrFun (W3_v9 m c) _).trans (row512 _ n))
theorem r1B_eq (t : Fin grid1.N) (k : Fin 512) (n : Fin 512) : r1B (W3 m) c t (ix2 k n) = argR1 m c (ix2 k n) := by
  have e : (win1_3.blk t).view.emb (ix2 k n : S512x512.Idx) = (ix2 k n : S512x512.Idx) := by
    refine funext fun a => Fin.ext ?_
    match a with
    | ⟨0, _⟩ => exact Pipeline.Window.rect_emb_val_of_index_zero win1_3 t 0 rfl _
    | ⟨1, _⟩ => exact Pipeline.Window.rect_emb_val_of_index_zero win1_3 t 1 rfl _
  exact (congrArg (W3 m c main_v10 : Vec Ideal S512x512 .bf16) e).trans (congrFun (W3_v10 m c) _)
theorem s1B_eq (t : Fin grid1.N) (n : Fin 512) : s1B (W3 m) c t (ix2 0 n) = argS1 m c (ix1 n) := by
  have e : (win1_4.blk t).view.emb (ix2 0 n : S1x512.Idx) = (ix2 0 n : S1x512.Idx) := by
    refine funext fun a => Fin.ext ?_
    match a with
    | ⟨0, _⟩ => exact Pipeline.Window.rect_emb_val_of_index_zero win1_4 t 0 rfl _
    | ⟨1, _⟩ => exact Pipeline.Window.rect_emb_val_of_index_zero win1_4 t 1 rfl _
  exact (congrArg (W3 m c main_v11 : Vec Ideal S1x512 .f32) e).trans ((congrFun (W3_v11 m c) _).trans (row512 _ n))
theorem r2B_eq (t : Fin grid1.N) (k : Fin 512) (n : Fin 256) : r2B (W3 m) c t (ix2 k n) = argR2 m c (ix2 k n) := by
  have e : (win1_5.blk t).view.emb (ix2 k n : S512x256.Idx) = (ix2 k n : S512x256.Idx) := by
    refine funext fun a => Fin.ext ?_
    match a with
    | ⟨0, _⟩ => exact Pipeline.Window.rect_emb_val_of_index_zero win1_5 t 0 rfl _
    | ⟨1, _⟩ => exact Pipeline.Window.rect_emb_val_of_index_zero win1_5 t 1 rfl _
  exact (congrArg (W3 m c main_v12 : Vec Ideal S512x256 .bf16) e).trans (congrFun (W3_v12 m c) _)
theorem s2B_eq (t : Fin grid1.N) (n : Fin 256) : s2B (W3 m) c t (ix2 0 n) = argS2 m c (ix1 n) := by
  have e : (win1_6.blk t).view.emb (ix2 0 n : S1x256.Idx) = (ix2 0 n : S1x256.Idx) := by
    refine funext fun a => Fin.ext ?_
    match a with
    | ⟨0, _⟩ => exact Pipeline.Window.rect_emb_val_of_index_zero win1_6 t 0 rfl _
    | ⟨1, _⟩ => exact Pipeline.Window.rect_emb_val_of_index_zero win1_6 t 1 rfl _
  exact (congrArg (W3 m c main_v13 : Vec Ideal S1x256 .f32) e).trans ((congrFun (W3_v13 m c) _).trans (row256 _ n))

/-- A row of the block of `x` that lies among the chunks is that chunk. -/
theorem xOn_eq (t : Fin grid0.N) (r : Fin 2048) (h : t.val * 2048 + r.val < 160000) (k : Fin 256) :
    xOn (V1' m) c t zeroX (ix2 r k) = argX m c (ix2 ⟨t.val * 2048 + r.val, h⟩ k) := by
  have hm := moved0 t (ix2 r k : S2048x256.Idx) h
  unfold xOn Pipeline.Window.fill
  rw [dif_pos hm]
  have e : ∀ y, (∀ a, (y a).val = ((ix2 r k : S2048x256.Idx) a).val) →
      (win0_1.blk t).view.emb y = (ix2 ⟨t.val * 2048 + r.val, h⟩ k : S160000x256.Idx) := by
    intro y hy
    refine funext fun a => Fin.ext ?_
    match a with
    | ⟨0, _⟩ =>
      refine (Pipeline.Window.rect_emb_val win0_1 t y 0).trans ?_
      rw [hy 0]
      show (BitVec.ofNat 32 _).toNat * 2048 + r.val = t.val * 2048 + r.val
      rw [word_coord]
    | ⟨1, _⟩ =>
      refine (Pipeline.Window.rect_emb_val_of_index_zero win0_1 t 1 rfl y).trans ?_
      exact hy 1
  refine (congrArg (V1 m c main_arg0 : Vec Ideal S160000x256 .f32) (e _ fun a => rfl)).trans ?_
  exact congrFun (V1_of m c main_arg0 (by decide)) _

/-- A row of the staged block of sums. -/
theorem aOn_eq (t : Fin grid1.N) (r : Fin 1000) (k : Fin 512) (h : t.val * 1000 + r.val < 10496) :
    aOn (W3 m) c t zeroA (ix2 r k) = (sums m c : FVec Ideal S10496x512 .f32) (ix2 ⟨t.val * 1000 + r.val, h⟩ k) := by
  have hm := moved1 t (ix2 r k : S1000x512.Idx)
  unfold aOn Pipeline.Window.fill
  rw [dif_pos hm]
  have e : ∀ y, (∀ a, (y a).val = ((ix2 r k : S1000x512.Idx) a).val) →
      (win1_0.blk t).view.emb y = (ix2 ⟨t.val * 1000 + r.val, h⟩ k : S10496x512.Idx) := by
    intro y hy
    refine funext fun a => Fin.ext ?_
    match a with
    | ⟨0, _⟩ =>
      refine (Pipeline.Window.rect_emb_val win1_0 t y 0).trans ?_
      rw [hy 0]
      show (BitVec.ofNat 32 _).toNat * 1000 + r.val = t.val * 1000 + r.val
      rw [word_coord1]
    | ⟨1, _⟩ =>
      refine (Pipeline.Window.rect_emb_val_of_index_zero win1_0 t 1 rfl y).trans ?_
      exact hy 1
  refine (congrArg (W3 m c main_v7 : Vec Ideal S10496x512 .f32) (e _ fun a => rfl)).trans ?_
  exact congrFun (W3_v7 m c) _

end Cert.KernelIdeal.Pure
-- ==== Proof.KI.AccSum.lean ====
/-
  What the two regions leave, over the extended reals: the first region's sums at a cell are the features of the
  chunks with that cell's id, added up; the second region's result at a row is `rho` of that row of the sums.
-/
module

public import proofs.«01_k».proof.Proof.KI.LoopSum
public import proofs.«01_k».proof.Proof.KI.Blocks

@[expose] public section

set_option maxRecDepth 16384

noncomputable section

namespace Cert.KernelIdeal.Pure

open Idealize.ShloMosaic Idealize.ShloMosaic.TcCoe Idealize.SL.Sem
open Cert.KernelIdeal Cert.KernelIdeal.Gen Cert.KernelIdeal.Seg Cert.Spec

variable (m : (ℓ : Loc nD τ sig) → Buf (Elt Ideal) ℓ) (c : Dev nD)

/-- The features of one chunk. -/
def chunk (q : Fin 160000) (n : Fin 512) : EReal :=
  phi (fun k n => argW0 m c (ix2 k n)) (fun n => argB0 m c (ix1 n)) (fun k n => argW1 m c (ix2 k n)) (fun n => argB1 m c (ix1 n))
    (fun k => argX m c (ix2 q k)) n

/-- What the `q`-th row of the padded chunks adds to cell `R`. -/
def term (R : ℕ) (n : Fin 512) (q : ℕ) : EReal :=
  if h : q < 160000 then (if ((idsOf (F := Ideal) m c) (ix1 ⟨q, h⟩)).toNat = R then chunk m c ⟨q, h⟩ n else 0) else 0

/-- The features the body computes at a row that lies among the chunks. -/
theorem pay3_chunk (t : Fin grid0.N) (k : Fin 2048) (h : t.val * 2048 + k.val < 160000) (n : Fin 512) :
    k0_pay3 (F := Ideal) (grid0.coords t) (xOn (V1' m) c t zeroX) (w0B (V1' m) c t) (b0B (V1' m) c t) (w1B (V1' m) c t) (b1B (V1' m) c t) (ix2 k n)
      = chunk m c ⟨t.val * 2048 + k.val, h⟩ n := by
  refine (pay3_apply _ _ _ _ _ _ k n).trans ?_
  unfold chunk
  have e0 : (fun (k : Fin 256) (n : Fin 512) => (show EReal from w0B (V1' m) c t (ix2 k n))) = fun k n => argW0 m c (ix2 k n) :=
    funext fun k => funext fun n => w0B_eq m c t k n
  have e1 : (fun (n : Fin 512) => (show EReal from b0B (V1' m) c t (ix2 0 n))) = fun n => argB0 m c (ix1 n) :=
    funext fun n => b0B_eq m c t n
  have e2 : (fun (k : Fin 512) (n : Fin 512) => (show EReal from w1B (V1' m) c t (ix2 k n))) = fun k n => argW1 m c (ix2 k n) :=
    funext fun k => funext fun n => w1B_eq m c t k n
  have e3 : (fun (n : Fin 512) => (show EReal from b1B (V1' m) c t (ix2 0 n))) = fun n => argB1 m c (ix1 n) :=
    funext fun n => b1B_eq m c t n
  have e4 : (fun (j : Fin 256) => (show EReal from maskRows (F := Ideal) (grid0.coords t) (xOn (V1' m) c t zeroX) (ix2 k j)))
      = fun j => argX m c (ix2 ⟨t.val * 2048 + k.val, h⟩ j) := by
    funext j
    unfold maskRows
    exact (if_pos (show (grid0.coords t 0).val * 2048 + k.val < 160000 by rw [coord0]; exact h)).trans (xOn_eq m c t k h j)
  exact congr (congr (congr (congr (congr (congrArg phi e0) e1) e2) e3) e4) rfl

/-- One grid point at a cell. -/
theorem point_apply (hG : ∀ t, Good (F := Ideal) (idB (V1' m) c t)) (t : Fin grid0.N) (R : Fin 10496) (hR : R.val < 10000) (n : Fin 512) :
    acc (V1' m) c (t.val + 1) (ix2 R n)
      = (show EReal from if t.val = 0 then 0 else acc (V1' m) c t.val (ix2 R n)) + ∑ k : Fin 2048, term m c R.val n (t.val * 2048 + k.val) := by
  rw [acc_succ]
  unfold bodyOut
  refine (loop_apply (hG t) _ R n 2048 0#32 _ 0 (by decide) (by decide) ?_).trans ?_
  · intro j
    show j.val < 0 ↔ idn _ j < 0 * 8
    omega
  · refine congr (congrArg _ ?_) (Finset.sum_congr rfl fun k _ => ?_)
    · rw [coord0]
      by_cases h0 : t.val = 0
      · rw [if_pos h0, if_pos h0]; exact pay2_apply R n
      · rw [if_neg h0, if_neg h0]
    · have hid : idn (F := Ideal) (idB (V1' m) c t) k = (padId (F := Ideal) (idsOf m c) (t.val * 2048 + k.val)).toNat :=
        congrArg BitVec.toNat (idB_apply m c t k)
      rw [hid]
      unfold padId term
      by_cases h : t.val * 2048 + k.val < 160000
      · rw [dif_pos h, dif_pos h]
        by_cases hr : ((idsOf (F := Ideal) m c) (ix1 ⟨t.val * 2048 + k.val, h⟩)).toNat = R.val
        · refine (if_pos ⟨Nat.zero_le _, hr⟩).trans (Eq.trans ?_ (if_pos hr).symm)
          exact pay3_chunk m c t k h n
        · exact (if_neg fun e => hr e.2).trans (if_neg hr).symm
      · rw [dif_neg h, dif_neg h]
        refine if_neg fun e => ?_
        have := e.2
        have h10 : (10000#32 : BitVec 32).toNat = 10000 := rfl
        omega

/-- The sums after `t` points. -/
theorem acc_apply (hG : ∀ t, Good (F := Ideal) (idB (V1' m) c t)) (R : Fin 10496) (hR : R.val < 10000) (n : Fin 512) :
    ∀ t, t ≤ 79 → acc (V1' m) c t (ix2 R n) = (show EReal from ∑ q ∈ Finset.range (t * 2048), term m c R.val n q) := by
  intro t
  induction t with
  | zero =>
    intro _
    refine (pay2_apply R n).trans ?_
    show (0 : EReal) = ∑ q ∈ Finset.range (0 * 2048), term m c R.val n q
    simp
  | succ t ih =>
    intro ht
    have hN : t < grid0.N := lt_of_lt_of_eq (show t < 79 by omega) N_0.symm
    refine (point_apply m c hG ⟨t, hN⟩ R hR n).trans ?_
    have hs : (t + 1) * 2048 = t * 2048 + 2048 := by ring
    show _ = ∑ q ∈ Finset.range ((t + 1) * 2048), term m c R.val n q
    rw [hs, Finset.sum_range_add, Finset.sum_range (fun x => term m c R.val n (t * 2048 + x))]
    refine congrArg (fun e : EReal => e + _) ?_
    by_cases h0 : t = 0
    · subst h0; simp
    · exact (if_neg h0).trans (ih (by omega))

/-- All points together: the chunks with the cell's id. -/
theorem acc_last (hG : ∀ t, Good (F := Ideal) (idB (V1' m) c t)) (R : Fin 10496) (hR : R.val < 10000) (n : Fin 512) :
    acc (V1' m) c 79 (ix2 R n)
      = (show EReal from ∑ q : Fin 160000, if ((idsOf (F := Ideal) m c) (ix1 q)).toNat = R.val then chunk m c q n else 0) := by
  refine (acc_apply m c hG R hR n 79 le_rfl).trans ?_
  have hs : 79 * 2048 = 160000 + 1792 := rfl
  show ∑ q ∈ Finset.range (79 * 2048), term m c R.val n q = _
  rw [hs, Finset.sum_range_add, Finset.sum_range (fun x => term m c R.val n x),
    Finset.sum_eq_zero (s := Finset.range 1792) (fun x _ => dif_neg (by omega)), add_zero]
  exact Finset.sum_congr rfl fun q _ => dif_pos q.isLt

/-- The one block of sums is the whole array. -/
theorem emb7 (t : Fin grid0.N) (y : S10496x512.Idx) : (win0_7.blk t).view.emb y = y := by
  refine funext fun a => Fin.ext ?_
  match a with
  | ⟨0, _⟩ => exact Pipeline.Window.rect_emb_val_of_index_zero win0_7 t 0 rfl y
  | ⟨1, _⟩ => exact Pipeline.Window.rect_emb_val_of_index_zero win0_7 t 1 rfl y

theorem sums_eq : (sums m c : FVec Ideal S10496x512 .f32) = acc (V1' m) c 79 := by
  refine Pipeline.Dat.arrAt_eq_of_cover (dat := dat0 (V1' m) c) 7 (acc (V1' m) c 79) ?_ ?_
  · intro t hf
    have ht : t.val = 78 := by
      have := (flush0_7 t).1 hf
      have : t.val < 79 := lt_of_lt_of_eq t.isLt N_0
      omega
    funext y
    show acc (V1' m) c (t.val + 1) (win0_7.xinj (grid0.coords t) y) = acc (V1' m) c 79 ((win0_7.blk t).view.emb y)
    rw [ht]
    exact congrArg (acc (V1' m) c 79) (emb7 t y).symm
  · intro i
    have h78 : 78 < grid0.N := lt_of_lt_of_eq (show 78 < 79 by omega) N_0.symm
    refine ⟨⟨78, h78⟩, (flush0_7 _).2 rfl, ?_⟩
    have := (win0_7.blk ⟨78, h78⟩).view.emb_mem_set i
    exact (emb7 ⟨78, h78⟩ i) ▸ this

/-- The result the second region should leave. -/
def resultSpec : FVec Ideal S10000x256 .f32 := fun i =>
  rho (fun k n => argR0 m c (ix2 k n)) (fun n => argS0 m c (ix1 n)) (fun k n => argR1 m c (ix2 k n)) (fun n => argS1 m c (ix1 n))
    (fun k n => argR2 m c (ix2 k n)) (fun n => argS2 m c (ix1 n))
    (fun n => ∑ q : Fin 160000, if ((idsOf (F := Ideal) m c) (ix1 q)).toNat = (i 0).val then chunk m c q n else 0) (i 1)

/-- The block the second region writes at a point. -/
theorem outB_apply (hG : ∀ t, Good (F := Ideal) (idB (V1' m) c t)) (t : Fin grid1.N) (r : Fin 1000) (n : Fin 256) (h : t.val * 1000 + r.val < 10000) :
    outB (W3 m) c t (ix2 r n) = resultSpec m c (ix2 ⟨t.val * 1000 + r.val, h⟩ n) := by
  unfold outB
  refine (rho_apply _ _ _ _ _ _ _ r n).trans ?_
  have e0 : (fun (k : Fin 512) (n : Fin 512) => (show EReal from r0B (W3 m) c t (ix2 k n))) = fun k n => argR0 m c (ix2 k n) :=
    funext fun k => funext fun n => r0B_eq m c t k n
  have e1 : (fun (n : Fin 512) => (show EReal from s0B (W3 m) c t (ix2 0 n))) = fun n => argS0 m c (ix1 n) :=
    funext fun n => s0B_eq m c t n
  have e2 : (fun (k : Fin 512) (n : Fin 512) => (show EReal from r1B (W3 m) c t (ix2 k n))) = fun k n => argR1 m c (ix2 k n) :=
    funext fun k => funext fun n => r1B_eq m c t k n
  have e3 : (fun (n : Fin 512) => (show EReal from s1B (W3 m) c t (ix2 0 n))) = fun n => argS1 m c (ix1 n) :=
    funext fun n => s1B_eq m c t n
  have e4 : (fun (k : Fin 512) (n : Fin 256) => (show EReal from r2B (W3 m) c t (ix2 k n))) = fun k n => argR2 m c (ix2 k n) :=
    funext fun k => funext fun n => r2B_eq m c t k n
  have e5 : (fun (n : Fin 256) => (show EReal from s2B (W3 m) c t (ix2 0 n))) = fun n => argS2 m c (ix1 n) :=
    funext fun n => s2B_eq m c t n
  have e6 : (fun (k : Fin 512) => (show EReal from aOn (W3 m) c t zeroA (ix2 r k)))
      = fun n => ∑ q : Fin 160000, if ((idsOf (F := Ideal) m c) (ix1 q)).toNat = t.val * 1000 + r.val then chunk m c q n else 0 :=
    funext fun k => (aOn_eq m c t r k (by omega)).trans
      ((congrFun (sums_eq m c) _).trans (acc_last m c hG ⟨t.val * 1000 + r.val, by omega⟩ h k))
  exact congr (congr (congr (congr (congr (congr (congr (congrArg rho e0) e1) e2) e3) e4) e5) e6) rfl

/-- Where a block of the result lies. -/
theorem emb1_7 (t : Fin grid1.N) (y : S1000x256.Idx) (h : t.val * 1000 + (y 0).val < 10000) :
    (win1_7.blk t).view.emb y = (ix2 ⟨t.val * 1000 + (y 0).val, h⟩ (y 1) : S10000x256.Idx) := by
  refine funext fun a => Fin.ext ?_
  match a with
  | ⟨0, _⟩ =>
    refine (Pipeline.Window.rect_emb_val win1_7 t y 0).trans ?_
    show (BitVec.ofNat 32 _).toNat * 1000 + (y 0).val = t.val * 1000 + (y 0).val
    rw [word_coord1]
  | ⟨1, _⟩ => exact Pipeline.Window.rect_emb_val_of_index_zero win1_7 t 1 rfl y

theorem result_eq (hG : ∀ t, Good (F := Ideal) (idB (V1' m) c t)) : (result m c : FVec Ideal S10000x256 .f32) = resultSpec m c := by
  refine Pipeline.Dat.arrAt_eq_of_cover (dat := dat1 (W3 m) c) 7 (resultSpec m c) ?_ ?_
  · intro t hf
    have ht : t.val < 10 := lt_of_lt_of_eq t.isLt N_1
    funext y
    have hy : ((y : S1000x256.Idx) 0).val < 1000 := ((y : S1000x256.Idx) 0).isLt
    show outB (W3 m) c t (win1_7.xinj (grid1.coords t) y) = resultSpec m c ((win1_7.blk t).view.emb y)
    have hx : win1_7.xinj (grid1.coords t) y = (ix2 ((y : S1000x256.Idx) 0) ((y : S1000x256.Idx) 1) : S1000x256.Idx) := by
      refine funext fun a => Fin.ext ?_
      match a with
      | ⟨0, _⟩ => rfl
      | ⟨1, _⟩ => rfl
    exact (congrArg (outB (W3 m) c t) hx).trans ((outB_apply m c hG t _ _ (by omega)).trans (congrArg (resultSpec m c) (emb1_7 t y (by omega))).symm)
  · intro i
    have h0 : ((i : S10000x256.Idx) 0).val < 10000 := ((i : S10000x256.Idx) 0).isLt
    have hN : ((i : S10000x256.Idx) 0).val / 1000 < grid1.N := lt_of_lt_of_eq (show _ < 10 by omega) N_1.symm
    refine ⟨⟨_, hN⟩, flush1_7 _, ?_⟩
    have e := emb1_7 ⟨_, hN⟩ (ix2 (⟨((i : S10000x256.Idx) 0).val % 1000, by omega⟩ : Fin 1000) ((i : S10000x256.Idx) 1) : S1000x256.Idx)
      (show ((i : S10000x256.Idx) 0).val / 1000 * 1000 + ((i : S10000x256.Idx) 0).val % 1000 < 10000 by omega)
    have e' : (win1_7.blk ⟨_, hN⟩).view.emb (ix2 (⟨((i : S10000x256.Idx) 0).val % 1000, by omega⟩ : Fin 1000) ((i : S10000x256.Idx) 1) : S1000x256.Idx) = i := by
      refine e.trans (funext fun a => Fin.ext ?_)
      match a with
      | ⟨0, _⟩ =>
        show ((i : S10000x256.Idx) 0).val / 1000 * 1000 + ((i : S10000x256.Idx) 0).val % 1000 = ((i : S10000x256.Idx) 0).val
        omega
      | ⟨1, _⟩ => rfl
    exact Finset.mem_map.mpr ⟨_, Finset.mem_univ _, e'⟩

end Cert.KernelIdeal.Pure
-- ==== Proof.RefPure.lean ====
/-
  The reference over the extended reals, element by element.
-/
module

public import proofs.«01_k».proof.Proof.Spec
public import proofs.«01_k».proof.Proof.Gen.ReferenceIdeal.Read
public import Idealize.ShloMosaic.Lib.Pointwise

@[expose] public section

set_option maxRecDepth 16384

noncomputable section

namespace Cert.RefPure

open Idealize.ShloMosaic Idealize.ShloMosaic.TcCoe Idealize.SL.Sem
open Cert.ReferenceIdeal Cert.ReferenceIdeal.Gen Cert.ReferenceIdeal.Read Cert.Spec

theorem features_apply (x : FVec Ideal S160000x256 .f32) (w0 : FVec Ideal S256x512 .f32) (b0 : FVec Ideal S512 .f32) (w1 : FVec Ideal S512x512 .f32)
    (b1 : FVec Ideal S512 .f32) (r : Fin 160000) (n : Fin 512) :
    val_main_v9 (F := Ideal) x w0 b0 w1 b1 (ix2 r n)
      = phi (fun k n => w0 (ix2 k n)) (fun n => b0 (ix1 n)) (fun k n => w1 (ix2 k n)) (fun n => b1 (ix1 n)) (fun k => x (ix2 r k)) n := by
  simp only [phi, dense, layer]
  pointwise! [val_main_v9, val_main_v8, val_main_v7, val_main_v6, val_main_v5, val_main_v4, val_main_v3, val_main_v2, val_main_v1, val_main_v0,
    val_main_call0_v0, val_main_call0_cst, val_main_call1_v0, val_main_call1_cst]

theorem ids_apply (ids : IVec S160000 32) (k : Fin 160000) : val_main_v11 (F := Ideal) ids (ix2 k 0) = ids (ix1 k) := by
  pointwise! [val_main_v11]

theorem zeros_apply (r : Fin 10000) (n : Fin 512) : val_main_v10 (F := Ideal) (ix2 r n) = (0 : EReal) := by
  pointwise! [val_main_v10, val_main_cst]

/-- The reference's last layers, over any sums. -/
theorem out_apply (x : FVec Ideal S160000x256 .f32) (ids : IVec S160000 32) (w0 : FVec Ideal S256x512 .f32) (b0 : FVec Ideal S512 .f32) (w1 : FVec Ideal S512x512 .f32)
    (b1 : FVec Ideal S512 .f32) (r0 : FVec Ideal S512x512 .f32) (s0 : FVec Ideal S512 .f32) (r1 : FVec Ideal S512x512 .f32) (s1 : FVec Ideal S512 .f32)
    (r2 : FVec Ideal S512x256 .f32) (s2 : FVec Ideal S256 .f32) (r : Fin 10000) (n : Fin 256) :
    val_main_v26 (F := Ideal) x ids w0 b0 w1 b1 r0 s0 r1 s1 r2 s2 (ix2 r n)
      = rho (fun k n => r0 (ix2 k n)) (fun n => s0 (ix1 n)) (fun k n => r1 (ix2 k n)) (fun n => s1 (ix1 n)) (fun k n => r2 (ix2 k n)) (fun n => s2 (ix1 n))
          (fun k => val_main_v12 (F := Ideal) x ids w0 b0 w1 b1 (ix2 r k)) n := by
  simp only [rho, dense, layer]
  unfold val_main_v26 val_main_v23 val_main_v22 val_main_v21 val_main_v18 val_main_v17 val_main_v16 val_main_v13
  generalize val_main_v12 (F := Ideal) x ids w0 b0 w1 b1 = A
  pointwise! [val_main_v25, val_main_v24, val_main_v20, val_main_v19, val_main_v15, val_main_v14,
    val_main_call2_v0, val_main_call2_cst, val_main_call3_v0, val_main_call3_cst]

end Cert.RefPure
-- ==== Proof.RefSum.lean ====
/-
  The reference's output at a cell: its layers of the sums of the features of the chunks the cell owns.
-/
module

public import proofs.«01_k».proof.Proof.Spec
public import proofs.«01_k».proof.Proof.Gen.ReferenceIdeal.Read
public import Idealize.ShloMosaic.Lib.ValueIdx

@[expose] public section

set_option maxRecDepth 16384

noncomputable section

namespace Cert.RefSum

open Idealize.ShloMosaic Idealize.ShloMosaic.TcCoe Idealize.ShloMosaic.ValueIdx Idealize.SL.Sem
open Cert.ReferenceIdeal Cert.ReferenceIdeal.Gen Cert.ReferenceIdeal.Read

/-- How the reference scatters: whole rows, each to the row its id names. -/
abbrev dims : ScatterDims S10000x512 S160000x1 S160000x512 := scatter_S10000x512_S160000x1_S160000x512_1_0_0_1

/-- An update lands at its id's row and its own column. -/
theorem lands (idx : IVec S160000x1 32) (k : Fin 160000) (c c' : Fin 512) (r : Fin 10000) :
    ScatterDims.resultIdx? dims (ix2 k c' : S160000x512.Idx) idx = some (ix2 r c : S10000x512.Idx)
      ↔ (idx (ix2 k 0)).toInt = (r.val : Int) ∧ c' = c := by
  have hs0 : ScatterDims.start dims (ix2 k c' : S160000x512.Idx) idx 0 = (idx (ix2 k 0)).toInt := by
    unfold ScatterDims.start
    rw [dif_pos (show (0 : Fin 2) ∈ dims.scatterDimsToOperandDims by decide)]
    refine congrArg (fun i => (idx i).toInt) ?_
    funext a
    match a with
    | ⟨0, _⟩ => rfl
    | ⟨1, _⟩ => exact Subsingleton.elim (α := Fin 1) _ _
  have hs1 : ScatterDims.start dims (ix2 k c' : S160000x512.Idx) idx 1 = 0 := by
    unfold ScatterDims.start
    rw [dif_neg (show ¬ (1 : Fin 2) ∈ dims.scatterDimsToOperandDims by decide)]
  have hw0 : ScatterDims.window dims (ix2 k c' : S160000x512.Idx) 0 = 0 := by
    unfold ScatterDims.window
    rw [dif_neg (show ¬ (0 : Fin 2) ∈ dims.sKept by decide)]
  have hw1 : ScatterDims.window dims (ix2 k c' : S160000x512.Idx) 1 = c'.val := by
    unfold ScatterDims.window
    rw [dif_pos (show (1 : Fin 2) ∈ dims.sKept by decide)]
    rfl
  unfold ScatterDims.resultIdx?
  constructor
  · intro h
    split at h
    · next hin =>
      have h' := Option.some.inj h
      have h0 : (ScatterDims.start dims (ix2 k c' : S160000x512.Idx) idx 0 + ScatterDims.window dims (ix2 k c' : S160000x512.Idx) 0).toNat = r.val :=
        congrArg Fin.val (congrFun h' 0)
      have h1 : (ScatterDims.start dims (ix2 k c' : S160000x512.Idx) idx 1 + ScatterDims.window dims (ix2 k c' : S160000x512.Idx) 1).toNat = c.val :=
        congrArg Fin.val (congrFun h' 1)
      have hi := (hin 0).1
      rw [hs0, hw0] at h0 hi
      rw [hs1, hw1] at h1
      exact ⟨by omega, Fin.ext (by omega)⟩
    · cases h
  · rintro ⟨h0, rfl⟩
    rw [dif_pos]
    · refine congrArg some (funext fun a => Fin.ext ?_)
      match a with
      | ⟨0, _⟩ =>
        show (ScatterDims.start dims (ix2 k c' : S160000x512.Idx) idx 0 + ScatterDims.window dims (ix2 k c' : S160000x512.Idx) 0).toNat = r.val
        rw [hs0, hw0]; omega
      | ⟨1, _⟩ =>
        show (ScatterDims.start dims (ix2 k c' : S160000x512.Idx) idx 1 + ScatterDims.window dims (ix2 k c' : S160000x512.Idx) 1).toNat = c'.val
        rw [hs1, hw1]; omega
    · intro a
      match a with
      | ⟨0, _⟩ =>
        show 0 ≤ ScatterDims.start dims (ix2 k c' : S160000x512.Idx) idx 0 + (ScatterDims.window dims (ix2 k c' : S160000x512.Idx) 0 : Int)
          ∧ ScatterDims.start dims (ix2 k c' : S160000x512.Idx) idx 0 + (ScatterDims.window dims (ix2 k c' : S160000x512.Idx) 0 : Int) < 10000
        rw [hs0, hw0]; have := r.isLt; omega
      | ⟨1, _⟩ =>
        show 0 ≤ ScatterDims.start dims (ix2 k c' : S160000x512.Idx) idx 1 + (ScatterDims.window dims (ix2 k c' : S160000x512.Idx) 1 : Int)
          ∧ ScatterDims.start dims (ix2 k c' : S160000x512.Idx) idx 1 + (ScatterDims.window dims (ix2 k c' : S160000x512.Idx) 1 : Int) < 512
        rw [hs1, hw1]; have := c'.isLt; omega

/-- The accumulating scatter, element by element. -/
theorem scattered (x : FVec Ideal S10000x512 .f32) (idx : IVec S160000x1 32) (u : FVec Ideal S160000x512 .f32) (r : Fin 10000) (c : Fin 512) :
    Host.scatterAdd dims x idx u (ix2 r c)
      = (show EReal from x (ix2 r c)) + ∑ k : Fin 160000, if (idx (ix2 k 0)).toInt = (r.val : Int) then (show EReal from u (ix2 k c)) else 0 := by
  show Ideal.hostScatterAdd dims x idx u (ix2 r c) = _
  unfold Ideal.hostScatterAdd
  refine congrArg (fun e : EReal => (show EReal from x (ix2 r c)) + e) ?_
  rw [Finset.sum_filter, sum_idx2]
  refine Finset.sum_congr rfl fun k _ => ?_
  rw [Finset.sum_eq_single c]
  · refine if_congr ?_ rfl rfl
    rw [lands]; simp
  · intro c' _ hc
    rw [if_neg]; rw [lands]; exact fun h => hc h.2
  · intro h; exact absurd (Finset.mem_univ _) h

end Cert.RefSum
-- ==== Proof.RefValue.lean ====
/-
  The reference's result over the extended reals, for ids below the number of cells.
-/
module

public import proofs.«01_k».proof.Proof.RefPure
public import proofs.«01_k».proof.Proof.RefSum

@[expose] public section

set_option maxRecDepth 16384

noncomputable section

namespace Cert.RefPure

open Idealize.ShloMosaic Idealize.ShloMosaic.TcCoe Idealize.SL.Sem
open Cert.ReferenceIdeal Cert.ReferenceIdeal.Gen Cert.ReferenceIdeal.Read Cert.Spec

/-- An id below the number of cells names the same cell signed and unsigned. -/
theorem toInt_iff (w : BitVec 32) (hw : w.toNat < 10000) (r : ℕ) : w.toInt = (r : Int) ↔ w.toNat = r := by
  rw [BitVec.toInt_eq_toNat_of_lt (by omega)]
  omega

/-- The reference's sums at a cell: the features of the chunks with that id. -/
theorem sums_apply (x : FVec Ideal S160000x256 .f32) (ids : IVec S160000 32) (hids : ∀ k : Fin 160000, (ids (ix1 k)).toNat < 10000)
    (w0 : FVec Ideal S256x512 .f32) (b0 : FVec Ideal S512 .f32) (w1 : FVec Ideal S512x512 .f32)
    (b1 : FVec Ideal S512 .f32) (r : Fin 10000) (n : Fin 512) :
    val_main_v12 (F := Ideal) x ids w0 b0 w1 b1 (ix2 r n)
      = (show EReal from ∑ q : Fin 160000, if (ids (ix1 q)).toNat = r.val
          then phi (fun k n => w0 (ix2 k n)) (fun n => b0 (ix1 n)) (fun k n => w1 (ix2 k n)) (fun n => b1 (ix1 n)) (fun k => x (ix2 q k)) n else 0) := by
  refine (Cert.RefSum.scattered (val_main_v10 (F := Ideal)) (val_main_v11 (F := Ideal) ids) (val_main_v9 (F := Ideal) x w0 b0 w1 b1) r n).trans ?_
  refine (congr (congrArg (fun a b : EReal => a + b) (zeros_apply r n)) (Finset.sum_congr rfl fun q _ => ?_)).trans (zero_add (M := EReal) _)
  have hi : val_main_v11 (F := Ideal) ids (ValueIdx.ix2 q 0) = ids (ix1 q) := ids_apply ids q
  rw [hi]
  by_cases h : (ids (ix1 q)).toNat = r.val
  · exact (if_pos ((toInt_iff _ (hids q) _).2 h)).trans ((features_apply x w0 b0 w1 b1 q n).trans (if_pos h).symm)
  · exact (if_neg fun e => h ((toInt_iff _ (hids q) _).1 e)).trans (if_neg h).symm

end Cert.RefPure
-- ==== Proof.Value.lean ====
/-
  The kernel and the reference end with one and the same result over the extended reals.
-/
module

public import proofs.«01_k».proof.Defs
public import proofs.«01_k».proof.Proof.Frames
public import proofs.«01_k».proof.Proof.KI.AccSum
public import proofs.«01_k».proof.Proof.RefValue

@[expose] public section

set_option maxRecDepth 16384

noncomputable section

namespace Cert.Value

open Idealize.ShloMosaic Idealize.ShloMosaic.TcCoe Idealize.SL.Sem
open Cert.Spec

/-- The reference's result of the kernel's arguments. -/
abbrev refOf (m : (ℓ : Loc Cert.KernelIdeal.nD Cert.KernelIdeal.τ Cert.KernelIdeal.sig) → Buf (Elt Ideal) ℓ) (c : Dev Cert.KernelIdeal.nD) :
    FVec Ideal Cert.ReferenceIdeal.S10000x256 .f32 :=
  Cert.ReferenceIdeal.Read.val_main_v26 (F := Ideal) (Cert.KernelIdeal.Pure.argX m c) (Cert.KernelIdeal.Seg.idsOf (F := Ideal) m c)
    (Cert.KernelIdeal.Pure.argW0 m c) (Cert.KernelIdeal.Pure.argB0 m c) (Cert.KernelIdeal.Pure.argW1 m c) (Cert.KernelIdeal.Pure.argB1 m c)
    (Cert.KernelIdeal.Pure.argR0 m c) (Cert.KernelIdeal.Pure.argS0 m c) (Cert.KernelIdeal.Pure.argR1 m c) (Cert.KernelIdeal.Pure.argS1 m c)
    (Cert.KernelIdeal.Pure.argR2 m c) (Cert.KernelIdeal.Pure.argS2 m c)

/-- The two results agree at every element. -/
theorem spec_eq_ref (m : (ℓ : Loc Cert.KernelIdeal.nD Cert.KernelIdeal.τ Cert.KernelIdeal.sig) → Buf (Elt Ideal) ℓ) (c : Dev Cert.KernelIdeal.nD)
    (hids : ∀ k : Fin 160000, ((Cert.KernelIdeal.Seg.idsOf (F := Ideal) m c) (ix1 k)).toNat < 10000) :
    Cert.KernelIdeal.Pure.resultSpec m c = refOf m c := by
  have key : ∀ (r : Fin 10000) (n : Fin 256), Cert.KernelIdeal.Pure.resultSpec m c (ix2 r n) = refOf m c (ix2 r n) := by
    intro r n
    refine Eq.trans ?_ (Cert.RefPure.out_apply _ _ _ _ _ _ _ _ _ _ _ _ r n).symm
    refine congrFun (congrArg (rho _ _ _ _ _ _) (funext fun k => ?_)) n
    exact (Cert.RefPure.sums_apply _ _ hids _ _ _ _ r k).symm
  funext i
  have hi : i = (ix2 (i 0) (i 1) : Cert.KernelIdeal.S10000x256.Idx) := by
    funext a
    match a with
    | ⟨0, _⟩ => rfl
    | ⟨1, _⟩ => rfl
  rw [hi]
  exact key (i 0) (i 1)

theorem algebraic [Cert.Pre_ids_sorted_in_range.Facts] : Cert.algebraic_KernelIdeal_ReferenceIdeal := by
  intro m g m' g' hpre hag
  have hres : ∀ c, Cert.KernelIdeal.Seg.result m c = refOf m c := fun c =>
    (Cert.KernelIdeal.Pure.result_eq m c (Cert.Frames.good_KernelIdeal m hpre c)).trans (spec_eq_ref m c (Cert.PreIds.decoded (hpre c)).1)
  refine ⟨fun c => refOf m c, ?_, ?_⟩
  · refine (θ_run Cert.KernelIdeal.defs _ _).mono ?_ (Cert.KernelIdeal.Seg.run_main m g (Cert.Frames.good_KernelIdeal m hpre))
    intro r hr c
    obtain ⟨a0, a1, a2, a3, a4, a5, a6, a7, a8, a9, a10, a11, hv⟩ := hr.1 c
    exact ⟨hv.trans (hres c), a0, a1, a2, a3, a4, a5, a6, a7, a8, a9, a10, a11⟩
  · refine (θ_run Cert.ReferenceIdeal.defs _ _).mono ?_ (Cert.ReferenceIdeal.Value.run m' g')
    intro r hr c
    obtain ⟨hv, ha⟩ := hr c
    refine ⟨hv.trans ?_, ha⟩
    obtain ⟨e0, e1, e2, e3, e4, e5, e6, e7, e8, e9, e10, e11⟩ := hag c
    refine (Cert.ReferenceIdeal.Read.val_main_v26_eq (F := Ideal) _ _ _ _ _ _ _ _ _ _ _ _).trans ?_
    rw [e0, e1, e2, e3, e4, e5, e6, e7, e8, e9, e10, e11]

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_sorted_in_range
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ids_sorted_in_range.Gen.facts,
    Cert.Frames.frame_Kernel, Cert.Frames.frame_KernelIdeal, Cert.Frames.frame_ReferenceIdeal, Cert.Frames.frame_ReferenceIdeal_sorted,
    trivial, Cert.Value.algebraic⟩

end Cert.Proof

end
